-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_exact_below [hKernelIdeal : Cert.KernelIdeal.Facts] [hReferenceIdeal : Cert.ReferenceIdeal.Facts] [hOn_exact_below : Cert.On_exact_below.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 2048]⟩ : Shape).Idx, (Layout.block ⟨2, ![256, 2048]⟩ ⟨2, ![4096, 2048]⟩ 0 16 c ((Cert.On_exact_below.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 2048]⟩ : Shape).Idx → _) i = 1#1 → r.2.mem ((c.tc : Thread Cert.KernelIdeal.nD Cert.KernelIdeal.τ).loc Cert.KernelIdeal.main_v1) i = (Layout.block ⟨2, ![256, 2048]⟩ ⟨2, ![4096, 2048]⟩ 0 16 c v0 : (⟨2, ![256, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_exact_below.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_exact_below : Cert.On_exact_below.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_exact_below (hKernelIdeal := hKernelIdeal) (hReferenceIdeal := hReferenceIdeal) (hOn_exact_below := hOn_exact_below)
-- ==== On_exact_below.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x2048 32 := (extsi 32 · natLt_8_32) main_arg1
  let main_v4 : FVec F S4096x2048 .f32 := sitofp .f32 main_v3
  let main_v5 : FVec F S4096x2048 .f32 := Host.absf main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B800000#32
  let main_v7 : FVec F S4096x2048 .f32 := broadcastInDim S4096x2048 ![] bcast_S_S4096x2048 main_cst
  let main_v8 : IVec S4096x2048 1 := cmpf .olt main_v6 main_v7
  main_v8
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S256x4096 : Shape := ⟨2, ![256, 4096]⟩
abbrev S16 : Shape := ⟨1, ![16]⟩
abbrev S_ : Shape := ⟨0, ![]⟩
abbrev S256x256 : Shape := ⟨2, ![256, 256]⟩

abbrev nBuf : Space → Nat
  | .hbm => 5
  | .vmem => 4
  | .smem => 2
  | _ => 0

abbrev bufTy : (tb : Table) → Fin (tcTables nBuf tb) → BufTy
  | .hbm, ⟨0, _⟩ => ⟨S4096x256, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .i8⟩
  | .local _ .vmem, ⟨1, _⟩ => ⟨S4096x2048, .i8⟩
  | .local _ .vmem, ⟨2, _⟩ => ⟨S256x2048, .f32⟩
  | .local _ .vmem, ⟨3, _⟩ => ⟨S256x4096, .i8⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_143 : BitVec 32 := 256#32
  let v211 : BitVec 32 := Scalar.muli v2 c256_i32_143
  ![0, v211.toNat]
def k0_off2 (d0 : Dev nD) (c1_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c256_i32 : BitVec 32 := 256#32
  let v210 : BitVec 32 := Scalar.muli v209 c256_i32
  let c0_i32_149 : BitVec 32 := 0#32
  ![v210.toNat, 0]
def k0_dev16 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_136 : BitVec 32 := 1#32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c1_i32_146 : BitVec 32 := 1#32
  let v212 : BitVec 32 := Scalar.muli v209 c1_i32_146
  let v213 : BitVec 32 := Scalar.addi c0_i32_147 v212
  v213.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v220 : BitVec 32 := Scalar.addi v2 c2_i32_150
  let c16_i32_151 : BitVec 32 := 16#32
  let c0_i32_152 : BitVec 32 := 0#32
  let v221 : BitVec 1 := Scalar.cmpi .eq c16_i32_151 c0_i32_152
  let c1_i32_153 : BitVec 32 := 1#32
  let v222 : BitVec 32 := Scalar.select v221 c1_i32_153 c16_i32_151
  let v223 : BitVec 32 := Scalar.remsi v220 v222
  let c0_i32_155 : BitVec 32 := 0#32
  let v225 : BitVec 1 := Scalar.cmpi .slt v223 c0_i32_155
  let c0_i32_156 : BitVec 32 := 0#32
  let v226 : BitVec 1 := Scalar.cmpi .slt v222 c0_i32_156
  let v227 : BitVec 1 := Scalar.xori v225 v226
  let c0_i32_154 : BitVec 32 := 0#32
  let v224 : BitVec 1 := Scalar.cmpi .ne v223 c0_i32_154
  let v228 : BitVec 1 := Scalar.andi v227 v224
  let v229 : BitVec 32 := Scalar.addi v223 v222
  let v230 : BitVec 32 := Scalar.select v228 v229 v223
  let c1_i32_161 : BitVec 32 := 1#32
  let v233 : BitVec 32 := Scalar.muli v230 c1_i32_161
  let v234 : BitVec 32 := Scalar.addi c0_i32_162 v233
  v234.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_165 : BitVec 32 := 3#32
  let v241 : BitVec 32 := Scalar.addi v2 c3_i32_165
  let c16_i32_166 : BitVec 32 := 16#32
  let c0_i32_167 : BitVec 32 := 0#32
  let v242 : BitVec 1 := Scalar.cmpi .eq c16_i32_166 c0_i32_167
  let c1_i32_168 : BitVec 32 := 1#32
  let v243 : BitVec 32 := Scalar.select v242 c1_i32_168 c16_i32_166
  let v244 : BitVec 32 := Scalar.remsi v241 v243
  let c0_i32_170 : BitVec 32 := 0#32
  let v246 : BitVec 1 := Scalar.cmpi .slt v244 c0_i32_170
  let c0_i32_171 : BitVec 32 := 0#32
  let v247 : BitVec 1 := Scalar.cmpi .slt v243 c0_i32_171
  let v248 : BitVec 1 := Scalar.xori v246 v247
  let c0_i32_169 : BitVec 32 := 0#32
  let v245 : BitVec 1 := Scalar.cmpi .ne v244 c0_i32_169
  let v249 : BitVec 1 := Scalar.andi v248 v245
  let v250 : BitVec 32 := Scalar.addi v244 v243
  let v251 : BitVec 32 := Scalar.select v249 v250 v244
  let c1_i32_176 : BitVec 32 := 1#32
  let v254 : BitVec 32 := Scalar.muli v251 c1_i32_176
  let v255 : BitVec 32 := Scalar.addi c0_i32_177 v254
  v255.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_180 : BitVec 32 := 4#32
  let v262 : BitVec 32 := Scalar.addi v2 c4_i32_180
  let c16_i32_181 : BitVec 32 := 16#32
  let c0_i32_182 : BitVec 32 := 0#32
  let v263 : BitVec 1 := Scalar.cmpi .eq c16_i32_181 c0_i32_182
  let c1_i32_183 : BitVec 32 := 1#32
  let v264 : BitVec 32 := Scalar.select v263 c1_i32_183 c16_i32_181
  let v265 : BitVec 32 := Scalar.remsi v262 v264
  let c0_i32_185 : BitVec 32 := 0#32
  let v267 : BitVec 1 := Scalar.cmpi .slt v265 c0_i32_185
  let c0_i32_186 : BitVec 32 := 0#32
  let v268 : BitVec 1 := Scalar.cmpi .slt v264 c0_i32_186
  let v269 : BitVec 1 := Scalar.xori v267 v268
  let c0_i32_184 : BitVec 32 := 0#32
  let v266 : BitVec 1 := Scalar.cmpi .ne v265 c0_i32_184
  let v270 : BitVec 1 := Scalar.andi v269 v266
  let v271 : BitVec 32 := Scalar.addi v265 v264
  let v272 : BitVec 32 := Scalar.select v270 v271 v265
  let c1_i32_191 : BitVec 32 := 1#32
  let v275 : BitVec 32 := Scalar.muli v272 c1_i32_191
  let v276 : BitVec 32 := Scalar.addi c0_i32_192 v275
  v276.toNat
def k0_dev20 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v283 : BitVec 32 := Scalar.addi v2 c5_i32_195
  let c16_i32_196 : BitVec 32 := 16#32
  let c0_i32_197 : BitVec 32 := 0#32
  let v284 : BitVec 1 := Scalar.cmpi .eq c16_i32_196 c0_i32_197
  let c1_i32_198 : BitVec 32 := 1#32
  let v285 : BitVec 32 := Scalar.select v284 c1_i32_198 c16_i32_196
  let v286 : BitVec 32 := Scalar.remsi v283 v285
  let c0_i32_200 : BitVec 32 := 0#32
  let v288 : BitVec 1 := Scalar.cmpi .slt v286 c0_i32_200
  let c0_i32_201 : BitVec 32 := 0#32
  let v289 : BitVec 1 := Scalar.cmpi .slt v285 c0_i32_201
  let v290 : BitVec 1 := Scalar.xori v288 v289
  let c0_i32_199 : BitVec 32 := 0#32
  let v287 : BitVec 1 := Scalar.cmpi .ne v286 c0_i32_199
  let v291 : BitVec 1 := Scalar.andi v290 v287
  let v292 : BitVec 32 := Scalar.addi v286 v285
  let v293 : BitVec 32 := Scalar.select v291 v292 v286
  let c1_i32_206 : BitVec 32 := 1#32
  let v296 : BitVec 32 := Scalar.muli v293 c1_i32_206
  let v297 : BitVec 32 := Scalar.addi c0_i32_207 v296
  v297.toNat
def k0_dev21 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_210 : BitVec 32 := 6#32
  let v304 : BitVec 32 := Scalar.addi v2 c6_i32_210
  let c16_i32_211 : BitVec 32 := 16#32
  let c0_i32_212 : BitVec 32 := 0#32
  let v305 : BitVec 1 := Scalar.cmpi .eq c16_i32_211 c0_i32_212
  let c1_i32_213 : BitVec 32 := 1#32
  let v306 : BitVec 32 := Scalar.select v305 c1_i32_213 c16_i32_211
  let v307 : BitVec 32 := Scalar.remsi v304 v306
  let c0_i32_215 : BitVec 32 := 0#32
  let v309 : BitVec 1 := Scalar.cmpi .slt v307 c0_i32_215
  let c0_i32_216 : BitVec 32 := 0#32
  let v310 : BitVec 1 := Scalar.cmpi .slt v306 c0_i32_216
  let v311 : BitVec 1 := Scalar.xori v309 v310
  let c0_i32_214 : BitVec 32 := 0#32
  let v308 : BitVec 1 := Scalar.cmpi .ne v307 c0_i32_214
  let v312 : BitVec 1 := Scalar.andi v311 v308
  let v313 : BitVec 32 := Scalar.addi v307 v306
  let v314 : BitVec 32 := Scalar.select v312 v313 v307
  let c1_i32_221 : BitVec 32 := 1#32
  let v317 : BitVec 32 := Scalar.muli v314 c1_i32_221
  let v318 : BitVec 32 := Scalar.addi c0_i32_222 v317
  v318.toNat
def k0_dev22 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_225 : BitVec 32 := 7#32
  let v325 : BitVec 32 := Scalar.addi v2 c7_i32_225
  let c16_i32_226 : BitVec 32 := 16#32
  let c0_i32_227 : BitVec 32 := 0#32
  let v326 : BitVec 1 := Scalar.cmpi .eq c16_i32_226 c0_i32_227
  let c1_i32_228 : BitVec 32 := 1#32
  let v327 : BitVec 32 := Scalar.select v326 c1_i32_228 c16_i32_226
  let v328 : BitVec 32 := Scalar.remsi v325 v327
  let c0_i32_230 : BitVec 32 := 0#32
  let v330 : BitVec 1 := Scalar.cmpi .slt v328 c0_i32_230
  let c0_i32_231 : BitVec 32 := 0#32
  let v331 : BitVec 1 := Scalar.cmpi .slt v327 c0_i32_231
  let v332 : BitVec 1 := Scalar.xori v330 v331
  let c0_i32_229 : BitVec 32 := 0#32
  let v329 : BitVec 1 := Scalar.cmpi .ne v328 c0_i32_229
  let v333 : BitVec 1 := Scalar.andi v332 v329
  let v334 : BitVec 32 := Scalar.addi v328 v327
  let v335 : BitVec 32 := Scalar.select v333 v334 v328
  let c1_i32_236 : BitVec 32 := 1#32
  let v338 : BitVec 32 := Scalar.muli v335 c1_i32_236
  let v339 : BitVec 32 := Scalar.addi c0_i32_237 v338
  v339.toNat
def k0_dev23 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_240 : BitVec 32 := 8#32
  let v346 : BitVec 32 := Scalar.addi v2 c8_i32_240
  let c16_i32_241 : BitVec 32 := 16#32
  let c0_i32_242 : BitVec 32 := 0#32
  let v347 : BitVec 1 := Scalar.cmpi .eq c16_i32_241 c0_i32_242
  let c1_i32_243 : BitVec 32 := 1#32
  let v348 : BitVec 32 := Scalar.select v347 c1_i32_243 c16_i32_241
  let v349 : BitVec 32 := Scalar.remsi v346 v348
  let c0_i32_245 : BitVec 32 := 0#32
  let v351 : BitVec 1 := Scalar.cmpi .slt v349 c0_i32_245
  let c0_i32_246 : BitVec 32 := 0#32
  let v352 : BitVec 1 := Scalar.cmpi .slt v348 c0_i32_246
  let v353 : BitVec 1 := Scalar.xori v351 v352
  let c0_i32_244 : BitVec 32 := 0#32
  let v350 : BitVec 1 := Scalar.cmpi .ne v349 c0_i32_244
  let v354 : BitVec 1 := Scalar.andi v353 v350
  let v355 : BitVec 32 := Scalar.addi v349 v348
  let v356 : BitVec 32 := Scalar.select v354 v355 v349
  let c1_i32_251 : BitVec 32 := 1#32
  let v359 : BitVec 32 := Scalar.muli v356 c1_i32_251
  let v360 : BitVec 32 := Scalar.addi c0_i32_252 v359
  v360.toNat
def k0_dev24 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_255 : BitVec 32 := 9#32
  let v367 : BitVec 32 := Scalar.addi v2 c9_i32_255
  let c16_i32_256 : BitVec 32 := 16#32
  let c0_i32_257 : BitVec 32 := 0#32
  let v368 : BitVec 1 := Scalar.cmpi .eq c16_i32_256 c0_i32_257
  let c1_i32_258 : BitVec 32 := 1#32
  let v369 : BitVec 32 := Scalar.select v368 c1_i32_258 c16_i32_256
  let v370 : BitVec 32 := Scalar.remsi v367 v369
  let c0_i32_260 : BitVec 32 := 0#32
  let v372 : BitVec 1 := Scalar.cmpi .slt v370 c0_i32_260
  let c0_i32_261 : BitVec 32 := 0#32
  let v373 : BitVec 1 := Scalar.cmpi .slt v369 c0_i32_261
  let v374 : BitVec 1 := Scalar.xori v372 v373
  let c0_i32_259 : BitVec 32 := 0#32
  let v371 : BitVec 1 := Scalar.cmpi .ne v370 c0_i32_259
  let v375 : BitVec 1 := Scalar.andi v374 v371
  let v376 : BitVec 32 := Scalar.addi v370 v369
  let v377 : BitVec 32 := Scalar.select v375 v376 v370
  let c1_i32_266 : BitVec 32 := 1#32
  let v380 : BitVec 32 := Scalar.muli v377 c1_i32_266
  let v381 : BitVec 32 := Scalar.addi c0_i32_267 v380
  v381.toNat
def k0_dev25 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_270 : BitVec 32 := 10#32
  let v388 : BitVec 32 := Scalar.addi v2 c10_i32_270
  let c16_i32_271 : BitVec 32 := 16#32
  let c0_i32_272 : BitVec 32 := 0#32
  let v389 : BitVec 1 := Scalar.cmpi .eq c16_i32_271 c0_i32_272
  let c1_i32_273 : BitVec 32 := 1#32
  let v390 : BitVec 32 := Scalar.select v389 c1_i32_273 c16_i32_271
  let v391 : BitVec 32 := Scalar.remsi v388 v390
  let c0_i32_275 : BitVec 32 := 0#32
  let v393 : BitVec 1 := Scalar.cmpi .slt v391 c0_i32_275
  let c0_i32_276 : BitVec 32 := 0#32
  let v394 : BitVec 1 := Scalar.cmpi .slt v390 c0_i32_276
  let v395 : BitVec 1 := Scalar.xori v393 v394
  let c0_i32_274 : BitVec 32 := 0#32
  let v392 : BitVec 1 := Scalar.cmpi .ne v391 c0_i32_274
  let v396 : BitVec 1 := Scalar.andi v395 v392
  let v397 : BitVec 32 := Scalar.addi v391 v390
  let v398 : BitVec 32 := Scalar.select v396 v397 v391
  let c1_i32_281 : BitVec 32 := 1#32
  let v401 : BitVec 32 := Scalar.muli v398 c1_i32_281
  let v402 : BitVec 32 := Scalar.addi c0_i32_282 v401
  v402.toNat
def k0_dev26 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_285 : BitVec 32 := 11#32
  let v409 : BitVec 32 := Scalar.addi v2 c11_i32_285
  let c16_i32_286 : BitVec 32 := 16#32
  let c0_i32_287 : BitVec 32 := 0#32
  let v410 : BitVec 1 := Scalar.cmpi .eq c16_i32_286 c0_i32_287
  let c1_i32_288 : BitVec 32 := 1#32
  let v411 : BitVec 32 := Scalar.select v410 c1_i32_288 c16_i32_286
  let v412 : BitVec 32 := Scalar.remsi v409 v411
  let c0_i32_290 : BitVec 32 := 0#32
  let v414 : BitVec 1 := Scalar.cmpi .slt v412 c0_i32_290
  let c0_i32_291 : BitVec 32 := 0#32
  let v415 : BitVec 1 := Scalar.cmpi .slt v411 c0_i32_291
  let v416 : BitVec 1 := Scalar.xori v414 v415
  let c0_i32_289 : BitVec 32 := 0#32
  let v413 : BitVec 1 := Scalar.cmpi .ne v412 c0_i32_289
  let v417 : BitVec 1 := Scalar.andi v416 v413
  let v418 : BitVec 32 := Scalar.addi v412 v411
  let v419 : BitVec 32 := Scalar.select v417 v418 v412
  let c1_i32_296 : BitVec 32 := 1#32
  let v422 : BitVec 32 := Scalar.muli v419 c1_i32_296
  let v423 : BitVec 32 := Scalar.addi c0_i32_297 v422
  v423.toNat
def k0_dev27 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_300 : BitVec 32 := 12#32
  let v430 : BitVec 32 := Scalar.addi v2 c12_i32_300
  let c16_i32_301 : BitVec 32 := 16#32
  let c0_i32_302 : BitVec 32 := 0#32
  let v431 : BitVec 1 := Scalar.cmpi .eq c16_i32_301 c0_i32_302
  let c1_i32_303 : BitVec 32 := 1#32
  let v432 : BitVec 32 := Scalar.select v431 c1_i32_303 c16_i32_301
  let v433 : BitVec 32 := Scalar.remsi v430 v432
  let c0_i32_305 : BitVec 32 := 0#32
  let v435 : BitVec 1 := Scalar.cmpi .slt v433 c0_i32_305
  let c0_i32_306 : BitVec 32 := 0#32
  let v436 : BitVec 1 := Scalar.cmpi .slt v432 c0_i32_306
  let v437 : BitVec 1 := Scalar.xori v435 v436
  let c0_i32_304 : BitVec 32 := 0#32
  let v434 : BitVec 1 := Scalar.cmpi .ne v433 c0_i32_304
  let v438 : BitVec 1 := Scalar.andi v437 v434
  let v439 : BitVec 32 := Scalar.addi v433 v432
  let v440 : BitVec 32 := Scalar.select v438 v439 v433
  let c1_i32_311 : BitVec 32 := 1#32
  let v443 : BitVec 32 := Scalar.muli v440 c1_i32_311
  let v444 : BitVec 32 := Scalar.addi c0_i32_312 v443
  v444.toNat
def k0_dev28 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_315 : BitVec 32 := 13#32
  let v451 : BitVec 32 := Scalar.addi v2 c13_i32_315
  let c16_i32_316 : BitVec 32 := 16#32
  let c0_i32_317 : BitVec 32 := 0#32
  let v452 : BitVec 1 := Scalar.cmpi .eq c16_i32_316 c0_i32_317
  let c1_i32_318 : BitVec 32 := 1#32
  let v453 : BitVec 32 := Scalar.select v452 c1_i32_318 c16_i32_316
  let v454 : BitVec 32 := Scalar.remsi v451 v453
  let c0_i32_320 : BitVec 32 := 0#32
  let v456 : BitVec 1 := Scalar.cmpi .slt v454 c0_i32_320
  let c0_i32_321 : BitVec 32 := 0#32
  let v457 : BitVec 1 := Scalar.cmpi .slt v453 c0_i32_321
  let v458 : BitVec 1 := Scalar.xori v456 v457
  let c0_i32_319 : BitVec 32 := 0#32
  let v455 : BitVec 1 := Scalar.cmpi .ne v454 c0_i32_319
  let v459 : BitVec 1 := Scalar.andi v458 v455
  let v460 : BitVec 32 := Scalar.addi v454 v453
  let v461 : BitVec 32 := Scalar.select v459 v460 v454
  let c1_i32_326 : BitVec 32 := 1#32
  let v464 : BitVec 32 := Scalar.muli v461 c1_i32_326
  let v465 : BitVec 32 := Scalar.addi c0_i32_327 v464
  v465.toNat
def k0_dev29 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_330 : BitVec 32 := 14#32
  let v472 : BitVec 32 := Scalar.addi v2 c14_i32_330
  let c16_i32_331 : BitVec 32 := 16#32
  let c0_i32_332 : BitVec 32 := 0#32
  let v473 : BitVec 1 := Scalar.cmpi .eq c16_i32_331 c0_i32_332
  let c1_i32_333 : BitVec 32 := 1#32
  let v474 : BitVec 32 := Scalar.select v473 c1_i32_333 c16_i32_331
  let v475 : BitVec 32 := Scalar.remsi v472 v474
  let c0_i32_335 : BitVec 32 := 0#32
  let v477 : BitVec 1 := Scalar.cmpi .slt v475 c0_i32_335
  let c0_i32_336 : BitVec 32 := 0#32
  let v478 : BitVec 1 := Scalar.cmpi .slt v474 c0_i32_336
  let v479 : BitVec 1 := Scalar.xori v477 v478
  let c0_i32_334 : BitVec 32 := 0#32
  let v476 : BitVec 1 := Scalar.cmpi .ne v475 c0_i32_334
  let v480 : BitVec 1 := Scalar.andi v479 v476
  let v481 : BitVec 32 := Scalar.addi v475 v474
  let v482 : BitVec 32 := Scalar.select v480 v481 v475
  let c1_i32_341 : BitVec 32 := 1#32
  let v485 : BitVec 32 := Scalar.muli v482 c1_i32_341
  let v486 : BitVec 32 := Scalar.addi c0_i32_342 v485
  v486.toNat
def k0_dev30 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_345 : BitVec 32 := 15#32
  let v493 : BitVec 32 := Scalar.addi v2 c15_i32_345
  let c16_i32_346 : BitVec 32 := 16#32
  let c0_i32_347 : BitVec 32 := 0#32
  let v494 : BitVec 1 := Scalar.cmpi .eq c16_i32_346 c0_i32_347
  let c1_i32_348 : BitVec 32 := 1#32
  let v495 : BitVec 32 := Scalar.select v494 c1_i32_348 c16_i32_346
  let v496 : BitVec 32 := Scalar.remsi v493 v495
  let c0_i32_350 : BitVec 32 := 0#32
  let v498 : BitVec 1 := Scalar.cmpi .slt v496 c0_i32_350
  let c0_i32_351 : BitVec 32 := 0#32
  let v499 : BitVec 1 := Scalar.cmpi .slt v495 c0_i32_351
  let v500 : BitVec 1 := Scalar.xori v498 v499
  let c0_i32_349 : BitVec 32 := 0#32
  let v497 : BitVec 1 := Scalar.cmpi .ne v496 c0_i32_349
  let v501 : BitVec 1 := Scalar.andi v500 v497
  let v502 : BitVec 32 := Scalar.addi v496 v495
  let v503 : BitVec 32 := Scalar.select v501 v502 v496
  let c1_i32_356 : BitVec 32 := 1#32
  let v506 : BitVec 32 := Scalar.muli v503 c1_i32_356
  let v507 : BitVec 32 := Scalar.addi c0_i32_357 v506
  v507.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_360 : BitVec 32 := 256#32
  let v514 : BitVec 32 := Scalar.muli v2 c256_i32_360
  let v515 : Index := Scalar.indexCast v514
  let c0 : Index := 0#32
  ![v515.toNat, 0]
def k0_off4 (d0 : Dev nD) : Fin 2 → Nat :=
  let c0_362 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_361 : BitVec 32 := 256#32
  let v518 : BitVec 32 := Scalar.muli v2 c256_i32_361
  let v519 : Index := Scalar.indexCast v518
  ![0, v519.toNat]
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Mesh.lean ====
/-
# The sixteen devices: offsets between them, and counting through the fifteen peers

Pure arithmetic, shared by both printed programs. A device is a number below 16; the kernel names its
peers by their offset `1 … 15` around the ring of devices.
-/
module

public import Idealize.ShloMosaic.Lib.Ring

@[expose] public section

namespace Cert.Mesh

open Idealize.ShloMosaic
open Idealize.SL Idealize.SL.RA Idealize.SL.BI
open scoped Idealize.SL.BI
open Idealize.SL.BI.BIBase Idealize.SL.BI.Laws

/-- The device `j` places further round than `c`. -/
def ahead (c j : Fin 16) : Fin 16 := ⟨(c.val + j.val) % 16, Nat.mod_lt _ (by decide)⟩

/-- The offset that undoes `j`. -/
def opp (j : Fin 16) : Fin 16 := ⟨(16 - j.val) % 16, Nat.mod_lt _ (by decide)⟩

theorem ahead_val (c j : Fin 16) : (ahead c j).val = (c.val + j.val) % 16 := rfl

theorem opp_opp (j : Fin 16) : opp (opp j) = j := by revert j; decide
theorem ahead_opp (c j : Fin 16) : ahead (ahead c j) (opp j) = c := by revert c j; decide
theorem opp_ahead (c j : Fin 16) : ahead (ahead c (opp j)) j = c := by revert c j; decide
theorem ahead_zero (c : Fin 16) : ahead c 0 = c := by revert c; decide
theorem opp_zero : opp 0 = 0 := by decide

/-- From a fixed device every device is at exactly one offset. -/
def aheadEquiv (c : Fin 16) : Fin 16 ≃ Fin 16 where
  toFun := ahead c
  invFun n := ahead n (opp c)
  left_inv j := by revert c j; decide
  right_inv n := by revert c n; decide

/-- … and likewise counting the offset backwards. -/
def behindEquiv (c : Fin 16) : Fin 16 ≃ Fin 16 where
  toFun j := ahead c (opp j)
  invFun n := ahead c (opp n)
  left_inv j := by revert c j; decide
  right_inv n := by revert c n; decide

/-- (device, offset) read from the other end: the device at that offset, and the offset back. -/
def turnEquiv : Fin 16 × Fin 16 ≃ Fin 16 × Fin 16 where
  toFun p := (ahead p.1 p.2, opp p.2)
  invFun p := (ahead p.1 p.2, opp p.2)
  left_inv p := by rcases p with ⟨c, j⟩; exact Prod.ext (ahead_opp c j) (opp_opp j)
  right_inv p := by rcases p with ⟨c, j⟩; exact Prod.ext (ahead_opp c j) (opp_opp j)

/-- (device, offset) carried to the device at that offset, the offset kept. -/
def shiftEquiv : Fin 16 × Fin 16 ≃ Fin 16 × Fin 16 where
  toFun p := (ahead p.1 p.2, p.2)
  invFun p := (ahead p.1 (opp p.2), p.2)
  left_inv p := by rcases p with ⟨c, j⟩; exact Prod.ext (ahead_opp c j) rfl
  right_inv p := by rcases p with ⟨c, j⟩; exact Prod.ext (opp_ahead c j) rfl

theorem ahead_eq_iff {a c j : Fin 16} : ahead a j = c ↔ a = ahead c (opp j) := by revert a c j; decide

/-! ## The peers still to come, and those done with -/

/-- The offsets from `k` on. -/
def pend (k : ℕ) : Finset (Fin 16) := Finset.univ.filter fun j => k ≤ j.val
/-- The offsets from 1 up to, not including, `k`. -/
def did (k : ℕ) : Finset (Fin 16) := Finset.univ.filter fun j => 1 ≤ j.val ∧ j.val < k

theorem mem_pend {k : ℕ} {j : Fin 16} : j ∈ pend k ↔ k ≤ j.val := by simp [pend]
theorem mem_did {k : ℕ} {j : Fin 16} : j ∈ did k ↔ 1 ≤ j.val ∧ j.val < k := by simp [did]

theorem pend_step {k : ℕ} (h : k < 16) : pend k = insert ⟨k, h⟩ (pend (k + 1)) := by
  ext j; rw [Finset.mem_insert, mem_pend, mem_pend, Fin.ext_iff]; constructor <;> intro h' <;> dsimp only at * <;> omega
theorem notMem_pend {k : ℕ} (h : k < 16) : (⟨k, h⟩ : Fin 16) ∉ pend (k + 1) := by rw [mem_pend]; dsimp only; omega
theorem did_step {k : ℕ} (h1 : 1 ≤ k) (h : k < 16) : did (k + 1) = insert ⟨k, h⟩ (did k) := by
  ext j; rw [Finset.mem_insert, mem_did, mem_did, Fin.ext_iff]; constructor <;> intro h' <;> dsimp only at * <;> omega
theorem notMem_did {k : ℕ} (h : k < 16) : (⟨k, h⟩ : Fin 16) ∉ did k := by rw [mem_did]; dsimp only; omega

theorem pend_16 : pend 16 = ∅ := by decide
theorem did_1 : did 1 = ∅ := by decide
theorem did_16 : did 16 = pend 1 := by decide
theorem univ_eq : (Finset.univ : Finset (Fin 16)) = insert 0 (pend 1) := by decide
theorem zero_notMem : (0 : Fin 16) ∉ pend 1 := by decide
theorem card_pend_1 : (pend 1).card = 15 := by decide
theorem ne_zero_of_le {k : ℕ} (h1 : 1 ≤ k) (h : k < 16) : (⟨k, h⟩ : Fin 16) ∈ pend 1 := mem_pend.mpr h1

theorem opp_mem {j : Fin 16} (h : j ∈ pend 1) : opp j ∈ pend 1 := by revert j; decide

variable {M : Type} [URA M]

/-- The next peer's share set apart from what is held for the peers from `k` on. -/
theorem bigSep_pend {k : ℕ} (h : k < 16) (Φ : Fin 16 → sProp M) :
    bigSep (pend k) Φ = iprop(Φ ⟨k, h⟩ ∗ bigSep (pend (k + 1)) Φ) := by
  rw [pend_step h, bigSep_insert (notMem_pend h)]; rfl

/-- A further peer's share put with those of the peers done with. -/
theorem bigSep_did {k : ℕ} (h1 : 1 ≤ k) (h : k < 16) (Φ : Fin 16 → sProp M) :
    bigSep (did (k + 1)) Φ = iprop(Φ ⟨k, h⟩ ∗ bigSep (did k) Φ) := by
  rw [did_step h1 h, bigSep_insert (notMem_did h)]; rfl

theorem bigSep_pend_16 (Φ : Fin 16 → sProp M) : bigSep (pend 16) Φ = iprop(emp) := by rw [pend_16, bigSep_empty]; rfl
theorem bigSep_did_1 (Φ : Fin 16 → sProp M) : bigSep (did 1) Φ = iprop(emp) := by rw [did_1, bigSep_empty]; rfl

/-- A device's own share and its fifteen peers'. -/
theorem bigSep_own_peers (Φ : Fin 16 → sProp M) : bigSep Finset.univ Φ = iprop(Φ 0 ∗ bigSep (pend 1) Φ) := by
  rw [univ_eq, bigSep_insert zero_notMem]; rfl

/-- The sixteen devices as one device and the fifteen at its offsets; -/
theorem bigSep_around (c : Fin 16) (Φ : Fin 16 → sProp M) :
    bigSep Finset.univ Φ = iprop(Φ c ∗ bigSep (pend 1) fun j => Φ (ahead c j)) := by
  rw [bigSep_univ_equiv (aheadEquiv c) Φ, bigSep_own_peers]
  show iprop(Φ (ahead c 0) ∗ bigSep (pend 1) fun j => Φ (ahead c j)) = _
  rw [ahead_zero]

/-- and with the offsets counted backwards. -/
theorem bigSep_behind (c : Fin 16) (Φ : Fin 16 → sProp M) :
    bigSep Finset.univ Φ = iprop(Φ c ∗ bigSep (pend 1) fun j => Φ (ahead c (opp j))) := by
  rw [bigSep_univ_equiv (behindEquiv c) Φ, bigSep_own_peers]
  show iprop(Φ (ahead c (opp 0)) ∗ bigSep (pend 1) fun j => Φ (ahead c (opp j))) = _
  rw [opp_zero, ahead_zero]

theorem sum_pend {A : Type} [AddCommMonoid A] {k : ℕ} (h : k < 16) (f : Fin 16 → A) :
    ∑ j ∈ pend k, f j = (∑ j ∈ pend (k + 1), f j) + f ⟨k, h⟩ := by
  rw [pend_step h, Finset.sum_insert (notMem_pend h), add_comm]

end Cert.Mesh
-- ==== Proof.KernelIdeal.Sched.lean ====
/-
# The exchange as a schedule of duties

Every device tells its fifteen peers that it has entered, waits for their fifteen signals, sends each peer the block of
its rows of `x` that the peer is to multiply, puts its own block in place, waits for the fifteen blocks coming to it,
multiplies, and waits for its own fifteen sends to have left.

As duties, all of round 0:

* the barrier cell of device `n` has fifteen, one per peer `ahead n i`, of one unit each; the peer hands over with it the
  column block of its gathering buffer that `n` writes;
* the receive cell `j` of device `d` has one, paid by the device whose offset to `d` is `j`: the landing of its block,
  which hands over that column block of `d`'s gathering buffer, holding the block sent;
* the send cell `j` of device `c` has one, paid by the transfer itself: the rows read go back to `c`.

Receive and send cells number 0 are never used.
-/
module

public import proofs.«01_k».proof.Proof.Mesh
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Pipeline.ValueKit.Geometry
public import Idealize.ShloMosaic.Lib.Tactic

@[expose] public section

noncomputable section

namespace Cert.KernelIdeal.Exch

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own, and the exchange's duties named by offsets -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Buffers, blocks and cells -/

abbrev xM : Memref sig .tc .vmem S4096x256 .i8 := Memref.whole cc0_stg0_0
abbrev wM : Memref sig .tc .vmem S4096x2048 .i8 := Memref.whole cc0_stg1_0
abbrev oM : Memref sig .tc .vmem S256x2048 .f32 := Memref.whole cc0_stg4_0
abbrev gM : Memref sig .tc .vmem S256x4096 .i8 := Memref.whole cc0_scratch0

/-- Where the rows for device `n` start in the `x` block. -/
abbrev rowOff (n : Dev nD) : Fin 2 → ℕ := ![256 * n.val, 0]
/-- Where the columns from device `n` start in the gathering buffer. -/
abbrev colOff (n : Dev nD) : Fin 2 → ℕ := ![0, 256 * n.val]

theorem rowOff_inb : ∀ (n : Dev nD) (a : Fin 2), rowOff n a + S256x256.size a ≤ S4096x256.size a := by decide
theorem colOff_inb : ∀ (n : Dev nD) (a : Fin 2), colOff n a + S256x256.size a ≤ S256x4096.size a := by decide

/-- The rows for device `n` of the `x` block. -/
abbrev rowM (n : Dev nD) : Memref sig .tc .vmem S256x256 .i8 :=
  xM.slice (Rect.unit (s := S4096x256) (rowOff n) S256x256.size (rowOff_inb n)) (fun _ => rfl)
/-- The columns from device `n` of the gathering buffer. -/
abbrev colM (n : Dev nD) : Memref sig .tc .vmem S256x256 .i8 :=
  gM.slice (Rect.unit (s := S256x4096) (colOff n) S256x256.size (colOff_inb n)) (fun _ => rfl)

abbrev barS : Sem sig := (SemArray.scalar (sig.barrier 0 rfl) : Sems sig S_).sem
set_option backward.proofsInPublic true in
def sendS (j : Fin 16) : DmaSem sig := ⟨5 + j.val, by have := j.isLt; show 5 + j.val < 37; omega⟩
set_option backward.proofsInPublic true in
def recvS (j : Fin 16) : DmaSem sig := ⟨21 + j.val, by have := j.isLt; show 21 + j.val < 37; omega⟩

abbrev barCell (c : Dev nD) : GSem nD τ sig := ((c : Thread nD τ), .reg barS)
abbrev sendCell (c : Dev nD) (j : Fin 16) : GSem nD τ sig := ((c : Thread nD τ), .dma (sendS j))
abbrev recvCell (c : Dev nD) (j : Fin 16) : GSem nD τ sig := ((c : Thread nD τ), .dma (recvS j))

/-- What one block's transfer counts. -/
def N : ℕ := (colM 0).view.dmaCredit
theorem N_pos : 0 < N := View.dmaCredit_pos _ (by decide)

/-! ## Contents -/

/-- The `x` block device `c` stages. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- Where entry `i` of device `c`'s gathered rows lies in the `x` block of device `i 1 / 256`. -/
def srcIdx (c : Dev nD) (i : S256x4096.Idx) : S4096x256.Idx :=
  Shape.pair (d := ![4096, 256]) ⟨256 * c.val + (i 0).val, by
    have h1 := c.isLt; have h2 : (i 0).val < 256 := (i 0).isLt
    show 256 * c.val + (i 0).val < 4096; have h1' : c.val < 16 := h1; omega⟩ ⟨(i 1).val % 256, Nat.mod_lt _ (by decide)⟩

set_option backward.proofsInPublic true in
/-- The device whose columns entry `i` lies in. -/
def srcDev (i : S256x4096.Idx) : Dev nD := ⟨(i 1).val / 256, by
  have h : (i 1).val < 4096 := (i 1).isLt
  show _ < 16; omega⟩

/-- Device `c`'s rows of the whole `x`, gathered: from device `s` the columns `256 s … 256 s + 255`. -/
def allx (c : Dev nD) : (cc0_scratch0 : Ref sig .tc).ty.Contents (Elt F) := fun i => xstg m ρ (srcDev i) (srcIdx c i)

omit [FloatOps F] in
theorem col_emb_0 (n : Dev nD) (y : S256x256.Idx) : ((colM n).view.emb y 0).val = (y 0).val := by
  show ((Rect.unit (s := S256x4096) (colOff n) S256x256.size (colOff_inb n)).emb y 0).val = _
  rw [ValueKit.rect_emb_unit_val]; exact Nat.zero_add _
omit [FloatOps F] in
theorem col_emb_1 (n : Dev nD) (y : S256x256.Idx) : ((colM n).view.emb y 1).val = 256 * n.val + (y 1).val := by
  show ((Rect.unit (s := S256x4096) (colOff n) S256x256.size (colOff_inb n)).emb y 1).val = _
  rw [ValueKit.rect_emb_unit_val]; rfl
omit [FloatOps F] in
theorem row_emb_0 (n : Dev nD) (y : S256x256.Idx) : ((rowM n).view.emb y 0).val = 256 * n.val + (y 0).val := by
  show ((Rect.unit (s := S4096x256) (rowOff n) S256x256.size (rowOff_inb n)).emb y 0).val = _
  rw [ValueKit.rect_emb_unit_val]; rfl
omit [FloatOps F] in
theorem row_emb_1 (n : Dev nD) (y : S256x256.Idx) : ((rowM n).view.emb y 1).val = (y 1).val := by
  show ((Rect.unit (s := S4096x256) (rowOff n) S256x256.size (rowOff_inb n)).emb y 1).val = _
  rw [ValueKit.rect_emb_unit_val]; exact Nat.zero_add _

omit [FloatOps F] in
/-- The gathered rows of `n`, at `s`'s columns: `s`'s rows for `n`. -/
theorem allx_emb (n s : Dev nD) (y : S256x256.Idx) :
    allx m ρ n ((colM s).view.emb y) = xstg m ρ s ((rowM n).view.emb y) := by
  have hy1 : (y 1).val < 256 := (y 1).isLt
  have hd : srcDev ((colM s).view.emb y) = s := Fin.ext (by
    show ((colM s).view.emb y 1).val / 256 = s.val; rw [col_emb_1]; omega)
  have hi : srcIdx n ((colM s).view.emb y) = (rowM n).view.emb y := by
    funext a
    match a with
    | ⟨0, _⟩ => exact Fin.ext (by
        show 256 * n.val + ((colM s).view.emb y 0).val = ((rowM n).view.emb y 0).val; rw [col_emb_0, row_emb_0])
    | ⟨1, _⟩ => exact Fin.ext (by
        show ((colM s).view.emb y 1).val % 256 = ((rowM n).view.emb y 1).val; rw [col_emb_1, row_emb_1]; omega)
    | ⟨a + 2, h⟩ => exact absurd h (Nat.not_lt.2 (Nat.le_add_left _ _))
  show xstg m ρ (srcDev _) (srcIdx n _) = _
  rw [hd, hi]

omit [FloatOps F] in
/-- A block landed agrees with the gathered rows on its columns. -/
theorem landed_eq (n s : Dev nD) (fd : (cc0_scratch0 : Ref sig .tc).ty.Contents (Elt F)) :
    ∀ i ∈ (colM s).view.set,
      (colM s).view.write (Elt F) fd ((rowM n).view.read (Elt F) (xstg m ρ s)) Finset.univ i = allx m ρ n i := by
  intro i hi
  obtain ⟨y, rfl⟩ : ∃ y, (colM s).view.emb y = i := by
    obtain ⟨y, -, hy⟩ := Finset.mem_map.mp (show i ∈ Finset.univ.map (colM s).view.emb from hi); exact ⟨y, hy⟩
  rw [View.write_emb_of_mem (v := (colM s).view) (x := y) _ _ (Finset.mem_univ _), View.read_apply (v := (rowM n).view) (x := y), allx_emb]
  rfl

def colPts (d n : Dev nD) (f : (cc0_scratch0 : Ref sig .tc).ty.Contents (Elt F)) : sProp 𝕄 :=
  (colM n).view.loc (d : Thread nD τ) ↦[(colM n).view.set]{fullShare} f
def rowPts (c n : Dev nD) : sProp 𝕄 :=
  (rowM n).view.loc (c : Thread nD τ) ↦[(rowM n).view.set]{fullShare} xstg m ρ c

omit [FloatOps F] in
instance colPts_storable (d n : Dev nD) (f) : BI.Storable (upEmb : UEmb _ 𝕄) (colPts (F := F) d n f) := by unfold colPts; infer_instance
omit [FloatOps F] in
instance rowPts_storable (c n : Dev nD) : BI.Storable (upEmb : UEmb _ 𝕄) (rowPts (F := F) m ρ c n) := by unfold rowPts; infer_instance

/-! ### The buffers, whole and by blocks -/

omit [FloatOps F] in
theorem col_set (n : Dev nD) : (colM n).view.set = (Rect.unit (s := S256x4096) (colOff n) S256x256.size (colOff_inb n)).set :=
  View.set_slice_whole cc0_scratch0 _
omit [FloatOps F] in
theorem row_set (n : Dev nD) : (rowM n).view.set = (Rect.unit (s := S4096x256) (rowOff n) S256x256.size (rowOff_inb n)).set :=
  View.set_slice_whole cc0_stg0_0 _

omit [FloatOps F] in
/-- The gathering buffer is its sixteen column blocks. -/
theorem cols_eq (d : Dev nD) (f : (cc0_scratch0 : Ref sig .tc).ty.Contents (Elt F)) :
    (((d : Thread nD τ).loc cc0_scratch0) ↦{fullShare} f : sProp 𝕄) = bigSep Finset.univ fun n : Fin 16 => colPts d n f := by
  have h := Ring.pointsTo_blocks (Ix := Unit) (Val := Elt F) (Name := ℕ) (U := UU) (Lvl := ℕ) (ℓ := (d : Thread nD τ).loc cc0_scratch0)
    (fun n : Fin 16 => (Rect.unit (s := S256x4096) (colOff n) S256x256.size (colOff_inb n)).set)
    (Ring.lead_disjoint (s := S256x4096) (1 : Fin 2) 256 colOff S256x256.size colOff_inb (fun b => rfl) rfl)
    (Ring.lead_cover (s := S256x4096) (1 : Fin 2) 256 colOff S256x256.size colOff_inb (fun b => rfl)
      (by intro b a; revert a; revert b; decide) rfl (by decide) (by decide))
    (q := fullShare) f
  rw [h]
  exact bigSep_congr fun n _ => by unfold colPts; rw [col_set]

omit [FloatOps F] in
/-- The staged `x` block is its sixteen row blocks. -/
theorem rows_eq (c : Dev nD) :
    (((c : Thread nD τ).loc cc0_stg0_0) ↦{fullShare} xstg m ρ c : sProp 𝕄) = bigSep Finset.univ fun n : Fin 16 => rowPts m ρ c n := by
  have h := Ring.pointsTo_blocks (Ix := Unit) (Val := Elt F) (Name := ℕ) (U := UU) (Lvl := ℕ) (ℓ := (c : Thread nD τ).loc cc0_stg0_0)
    (fun n : Fin 16 => (Rect.unit (s := S4096x256) (rowOff n) S256x256.size (rowOff_inb n)).set)
    (Ring.lead_disjoint (s := S4096x256) (0 : Fin 2) 256 rowOff S256x256.size rowOff_inb (fun b => rfl) rfl)
    (Ring.lead_cover (s := S4096x256) (0 : Fin 2) 256 rowOff S256x256.size rowOff_inb (fun b => rfl)
      (by intro b a; revert a; revert b; decide) rfl (by decide) (by decide))
    (q := fullShare) (xstg m ρ c)
  rw [h]
  exact bigSep_congr fun n _ => by unfold rowPts; rw [row_set]

/-! ## The schedule -/

/-- What peer `ahead c i` hands `c` with its signal: its column block for `c`. -/
def barPay (c : Dev nD) (i : Fin 16) : sProp 𝕄 := iprop(∃ f, colPts (ahead c i) c f)
/-- What the block coming in on receive cell `j` hands `c`: the sender's columns, gathered. -/
def recvPay (c : Dev nD) (j : Fin 16) : sProp 𝕄 := colPts c (ahead c (opp j)) (allx m ρ c)
/-- What the send at offset `j` hands back: the rows it read. -/
def sendPay (c : Dev nD) (j : Fin 16) : sProp 𝕄 := rowPts m ρ c (ahead c j)

/-- The duties of a semaphore's round 0. -/
def semDuties : SemLoc sig → Finset (Fin 16)
  | .reg _ => pend 1
  | .dma q => if 5 < q.val ∧ q.val ≠ 21 then {0} else ∅

set_option backward.proofsInPublic true in
/-- A transfer semaphore's offset. -/
def semOff (q : DmaSem sig) : Fin 16 := ⟨(q.val - 5) % 16, Nat.mod_lt _ (by decide)⟩

def pay (c : Dev nD) : SemLoc sig → Fin 16 → sProp 𝕄
  | .reg _, i => barPay c i
  | .dma q, _ => if 21 ≤ q.val then recvPay m ρ c (semOff q) else sendPay m ρ c (semOff q)

/-- The schedule described above. -/
def exRd : Rounds.Schedule (GSem nD τ sig) (Fin 16) 𝕄 where
  duties g r := if r = 0 ∧ g.1.2 = .tc then semDuties g.2 else ∅
  unitless _ := False
  amount g _ _ := if g.2 = .reg barS then 1 else N
  payload g _ i := pay m ρ g.1.1 g.2 i
  amount_pos g _ _ _ := by
    by_cases h : g.2 = .reg barS
    · rw [if_pos h]; exact Nat.one_pos
    · rw [if_neg h]; exact N_pos

instance pay_storable (c : Dev nD) (sm : SemLoc sig) (i : Fin 16) : BI.Storable (upEmb : UEmb _ 𝕄) (pay (F := F) m ρ c sm i) := by
  cases sm with
  | reg s => show BI.Storable upEmb (barPay c i); unfold barPay; infer_instance
  | dma q =>
    show BI.Storable upEmb (if 21 ≤ q.val then recvPay m ρ c (semOff q) else sendPay m ρ c (semOff q))
    unfold recvPay sendPay; split <;> infer_instance

instance exRd_payload_storable (g : GSem nD τ sig) (r : ℕ) (i : Fin 16) :
    BI.Storable (upEmb : UEmb _ 𝕄) ((exRd (F := F) m ρ).payload g r i) := pay_storable m ρ g.1.1 g.2 i

section Sched
variable (c : Dev nD)

theorem semOff_send (j : Fin 16) : semOff (sendS j) = j := by revert j; decide
theorem semOff_recv (j : Fin 16) : semOff (recvS j) = j := by revert j; decide
theorem dma_ne_bar (q : DmaSem sig) : (SemLoc.dma q : SemLoc sig) ≠ .reg barS := fun h => by cases h

theorem semDuties_send_0 : semDuties (.dma (sendS 0)) = ∅ := by decide
theorem semDuties_recv_0 : semDuties (.dma (recvS 0)) = ∅ := by decide

omit [FloatOps F] in
theorem duties_bar : (exRd (F := F) m ρ).duties (barCell c) 0 = pend 1 := by dsimp only [exRd]; exact if_pos ⟨rfl, rfl⟩
omit [FloatOps F] in
theorem duties_send {j : Fin 16} (hj : j ∈ pend 1) : (exRd (F := F) m ρ).duties (sendCell c j) 0 = {0} := by
  dsimp only [exRd]; rw [if_pos ⟨rfl, rfl⟩]; exact if_pos (by revert j; decide)
omit [FloatOps F] in
theorem duties_recv {j : Fin 16} (hj : j ∈ pend 1) : (exRd (F := F) m ρ).duties (recvCell c j) 0 = {0} := by
  dsimp only [exRd]; rw [if_pos ⟨rfl, rfl⟩]; exact if_pos (by revert j; decide)
omit [FloatOps F] in
theorem duties_later (g : GSem nD τ sig) : ∀ r, 1 ≤ r → (exRd (F := F) m ρ).duties g r = ∅ := fun r hr => by
  dsimp only [exRd]; exact if_neg fun h => by omega
omit [FloatOps F] in
/-- The two cells numbered 0 have no duty in any round. -/
theorem duties_send_0 : ∀ r, 0 ≤ r → (exRd (F := F) m ρ).duties (sendCell c 0) r = ∅ := fun r _ => by
  dsimp only [exRd]
  by_cases h : r = 0 ∧ (sendCell c 0).1.2 = .tc
  · rw [if_pos h]; exact semDuties_send_0
  · exact if_neg h
omit [FloatOps F] in
theorem duties_recv_0 : ∀ r, 0 ≤ r → (exRd (F := F) m ρ).duties (recvCell c 0) r = ∅ := fun r _ => by
  dsimp only [exRd]
  by_cases h : r = 0 ∧ (recvCell c 0).1.2 = .tc
  · rw [if_pos h]; exact semDuties_recv_0
  · exact if_neg h

omit [FloatOps F] in
theorem amount_bar (i : Fin 16) : (exRd (F := F) m ρ).amount (barCell c) 0 i = 1 := by dsimp only [exRd]; exact if_pos rfl
omit [FloatOps F] in
theorem amount_send (j i : Fin 16) : (exRd (F := F) m ρ).amount (sendCell c j) 0 i = N := by dsimp only [exRd]; exact if_neg (dma_ne_bar (sendS j))
omit [FloatOps F] in
theorem amount_recv (j i : Fin 16) : (exRd (F := F) m ρ).amount (recvCell c j) 0 i = N := by dsimp only [exRd]; exact if_neg (dma_ne_bar (recvS j))

omit [FloatOps F] in
theorem expect_bar : (exRd (F := F) m ρ).expect (barCell c) 0 = 15 := by
  unfold Schedule.expect Schedule.amountOf
  rw [duties_bar, Finset.sum_congr rfl fun i _ => amount_bar m ρ c i, Finset.sum_const, card_pend_1, smul_eq_mul]
omit [FloatOps F] in
theorem expect_send {j : Fin 16} (hj : j ∈ pend 1) : (exRd (F := F) m ρ).expect (sendCell c j) 0 = N := by
  unfold Schedule.expect Schedule.amountOf; rw [duties_send m ρ c hj, Finset.sum_singleton, amount_send]
omit [FloatOps F] in
theorem expect_recv {j : Fin 16} (hj : j ∈ pend 1) : (exRd (F := F) m ρ).expect (recvCell c j) 0 = N := by
  unfold Schedule.expect Schedule.amountOf; rw [duties_recv m ρ c hj, Finset.sum_singleton, amount_recv]

omit [FloatOps F] in
theorem payload_bar (i : Fin 16) : (exRd (F := F) m ρ).payload (barCell c) 0 i = barPay c i := rfl
omit [FloatOps F] in
theorem payload_send (j i : Fin 16) : (exRd (F := F) m ρ).payload (sendCell c j) 0 i = sendPay m ρ c j := by
  show (if 21 ≤ (sendS j).val then recvPay m ρ c (semOff (sendS j)) else sendPay m ρ c (semOff (sendS j))) = _
  rw [if_neg (by revert j; decide), semOff_send]
omit [FloatOps F] in
theorem payload_recv (j i : Fin 16) : (exRd (F := F) m ρ).payload (recvCell c j) 0 i = recvPay m ρ c j := by
  show (if 21 ≤ (recvS j).val then recvPay m ρ c (semOff (recvS j)) else sendPay m ρ c (semOff (recvS j))) = _
  rw [if_pos (by revert j; decide), semOff_recv]

omit [FloatOps F] in
/-- A full barrier round hands over the fifteen peers' column blocks for `c`. -/
theorem rest_bar : bigSep ((exRd (F := F) m ρ).duties (barCell c) 0 \ ∅) (fun i => (exRd (F := F) m ρ).payload (barCell c) 0 i)
    = bigSep (pend 1) fun i => barPay c i := by rw [Finset.sdiff_empty, duties_bar]; rfl
omit [FloatOps F] in
theorem rest_send {j : Fin 16} (hj : j ∈ pend 1) :
    bigSep ((exRd (F := F) m ρ).duties (sendCell c j) 0 \ ∅) (fun i => (exRd (F := F) m ρ).payload (sendCell c j) 0 i) = sendPay m ρ c j := by
  rw [Finset.sdiff_empty, duties_send m ρ c hj, bigSep_singleton, payload_send]
omit [FloatOps F] in
theorem rest_recv {j : Fin 16} (hj : j ∈ pend 1) :
    bigSep ((exRd (F := F) m ρ).duties (recvCell c j) 0 \ ∅) (fun i => (exRd (F := F) m ρ).payload (recvCell c j) 0 i) = recvPay m ρ c j := by
  rw [Finset.sdiff_empty, duties_recv m ρ c hj, bigSep_singleton, payload_recv]

end Sched

/-! ## What each device owes at launch; the levels -/

/-- The receive credits device `c`'s sends from offset `k` on will pay. -/
def Osend (c : Dev nD) (k : ℕ) : CellTallies nD τ sig Unit := ∑ j ∈ pend k, tallyAt (recvCell (ahead c j) j) () N
/-- The barrier units its signals from offset `k` on will pay. -/
def Osig (c : Dev nD) (k : ℕ) : CellTallies nD τ sig Unit := ∑ j ∈ pend k, tallyAt (barCell (ahead c j)) () 1
/-- What it owes before signal `k`. -/
def Oat (c : Dev nD) (k : ℕ) : CellTallies nD τ sig Unit := Osend c 1 + Osig c k

theorem Osend_step (c : Dev nD) {k : ℕ} (h : k < 16) :
    Osend c k = Osend c (k + 1) + tallyAt (recvCell (ahead c ⟨k, h⟩) ⟨k, h⟩) () N := sum_pend h _
theorem Oat_step (c : Dev nD) {k : ℕ} (h : k < 16) :
    Oat c k = Oat c (k + 1) + tallyAt (barCell (ahead c ⟨k, h⟩)) () 1 := by
  unfold Oat Osig; rw [sum_pend h, add_assoc]
theorem Osend_16 (c : Dev nD) : Osend c 16 = 0 := by unfold Osend; rw [pend_16, Finset.sum_empty]
theorem Oat_16 (c : Dev nD) : Oat c 16 = Osend c 1 := by unfold Oat Osig; rw [pend_16, Finset.sum_empty, add_zero]

def L (g : GSem nD τ sig) : Finset Unit := if g.1.2 = .tc then {()} else ∅
/-- Barrier cells at 1, receive cells at 2, the rest at 0. -/
def lv (g : GSem nD τ sig) (_ : Unit) : ℕ := match g.2 with
  | .reg _ => 1
  | .dma q => if 21 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 16) (u : Unit) : lv (recvCell c j) u = 2 := by
  show (if 21 ≤ (recvS j).val then 2 else 0) = 2
  exact if_pos (by revert j; decide)

/-- What a sum of single owings owes, one of them owes. -/
theorem sum_tally_pos (cells : Fin 16 → GSem nD τ sig) (n k : ℕ) {g : GSem nD τ sig} {u : Unit}
    (h : 0 < (∑ j ∈ pend k, (tallyAt (cells j) () n : CellTallies nD τ sig Unit)) g u) : ∃ j, g = cells j := by
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hg
  exact hj (if_neg fun h' => hg h'.1)

theorem Osend_pos {c : Dev nD} {k : ℕ} {g : GSem nD τ sig} {u : Unit} (h : 0 < Osend c k g u) : ∃ n j, g = recvCell n j := by
  obtain ⟨j, hj⟩ := sum_tally_pos (fun j => recvCell (ahead c j) j) N k h
  exact ⟨_, _, hj⟩

theorem Oat_pos {c : Dev nD} {k : ℕ} {g : GSem nD τ sig} {u : Unit} (h : 0 < Oat c k g u) :
    (∃ n j, g = recvCell n j) ∨ ∃ n, g = barCell n := by
  unfold Oat at h
  rw [Pi.add_apply, Finsupp.add_apply] at h
  rcases Nat.eq_zero_or_pos (Osend c 1 g u) with h0 | h0
  · rw [h0, Nat.zero_add] at h
    obtain ⟨j, hj⟩ := sum_tally_pos (fun j => barCell (ahead c j)) 1 k h
    exact .inr ⟨_, hj⟩
  · exact .inl (Osend_pos h0)

omit [FloatOps F] in
/-- The staging semaphores may be waited on whatever of the exchange is still owed. -/
theorem mayWait_stage (c : Dev nD) (q : DmaSem sig) (hq : q.val < 21) (O : CellTallies nD τ sig Unit) (hO : O = Oat c 1 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Oat_pos hg with ⟨n, j, rfl⟩ | ⟨n, rfl⟩ <;> exact Finset.mem_singleton_self _)
      (fun p hp => by
        rw [Finset.mem_singleton.mp hp]
        show (if 21 ≤ q.val then 2 else 0) ≤ 0
        rw [if_neg (by omega)])
      (fun g u hg => by
        rcases Oat_pos hg with ⟨n, j, rfl⟩ | ⟨n, rfl⟩
        · rw [lv_recv]; decide
        · exact Nat.one_pos)
  · rw [MayWait_zero]; iintro -; iempintro

omit [FloatOps F] in
/-- At its barrier wait a device owes receive credits only, and those are above the barrier. -/
theorem mayWait_bar (c : Dev nD) :
    (levAts L lv : sProp 𝕄) ⊢ MayWait (c : Thread nD τ) (.reg barS) () (Osend c 1) :=
  MayOwe.of_cut (L := L) (lev := lv) 1 (fun p hp => by rw [Finset.mem_singleton.mp hp, L_tc]; exact Finset.mem_singleton_self _)
    (fun g u hg => by obtain ⟨n, j, rfl⟩ := Osend_pos hg; exact Finset.mem_singleton_self _)
    (fun p hp => by rw [Finset.mem_singleton.mp hp]; exact le_refl 1)
    (fun g u hg => by obtain ⟨n, j, rfl⟩ := Osend_pos hg; rw [lv_recv]; decide)

end Cert.KernelIdeal.Exch

end
-- ==== Proof.KernelIdeal.Steps.lean ====
/-
# One step of each of the exchange's loops

The kernel does four things fifteen times, once per peer offset: signal, send, wait for an incoming block, wait for a
send to have left. For each, what the device holds before the step at offset `k` (a chain over the offsets still to come
and one over the offsets done with), and the step from `k` to `k + 1`.
-/
module

public import proofs.«01_k».proof.Proof.KernelIdeal.Sched

@[expose] public section

noncomputable section

namespace Cert.KernelIdeal.Exch

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, indexed, and the records of them every device holds -/

/-- A device's cells: its barrier's, and its sends' (`false`) and receives' (`true`) by offset. -/
abbrev CellIx : Type := Option (Bool × Fin 16)

/-- A device's own transfer semaphores; -/
abbrev osem : Bool × Fin 16 → SemLoc sig := fun x => if x.1 then .dma (recvS x.2) else .dma (sendS x.2)
/-- with the barrier's. -/
abbrev csem : CellIx → SemLoc sig := fun | none => .reg barS | some x => osem x
abbrev kcell (ck : Dev nD × CellIx) : GSem nD τ sig := ((ck.1 : Thread nD τ), csem ck.2)

variable (K : Dev nD × CellIx → ℕ)

/-- Every cell of every device: its invariant, at the names `K`, and that its round 0 has begun. -/
def records : sProp 𝕄 :=
  bigSep Finset.univ fun ck : Dev nD × CellIx => iprop(cellInv ER (exRd m ρ) (K ck) (kcell ck) ∗ reached ER (kcell ck) 0)

instance records_persistent : BI.Persistent (records m ρ K) := by unfold records; infer_instance

omit [FloatOps F] in
theorem records_at (ck : Dev nD × CellIx) :
    records m ρ K ⊢ iprop(cellInv ER (exRd m ρ) (K ck) (kcell ck) ∗ reached ER (kcell ck) 0) :=
  bigSep_elim (Φ := fun ck : Dev nD × CellIx => iprop(cellInv ER (exRd m ρ) (K ck) (kcell ck) ∗ reached ER (kcell ck) 0)) (Finset.mem_univ ck)
omit [FloatOps F] in
theorem records_bar (c : Dev nD) :
    records m ρ K ⊢ iprop(cellInv ER (exRd m ρ) (K (c, none)) (barCell c) ∗ reached ER (barCell c) 0) := records_at m ρ K (c, none)
omit [FloatOps F] in
theorem records_send (c : Dev nD) (j : Fin 16) :
    records m ρ K ⊢ iprop(cellInv ER (exRd m ρ) (K (c, some (false, j))) (sendCell c j) ∗ reached ER (sendCell c j) 0) :=
  records_at m ρ K (c, some (false, j))
omit [FloatOps F] in
theorem records_recv (c : Dev nD) (j : Fin 16) :
    records m ρ K ⊢ iprop(cellInv ER (exRd m ρ) (K (c, some (true, j))) (recvCell c j) ∗ reached ER (recvCell c j) 0) :=
  records_at m ρ K (c, some (true, j))

section Steps

variable (c : Dev nD)

/-- What `c` owes, whatever it has waited for. -/
def owing (O : CellTallies nD τ sig Unit) : sProp 𝕄 := iprop(∃ W, owes (c : Thread nD τ) O W)

/-! ## Signals -/

/-- For the peer at offset `j`: the right to signal it and the column block the signal hands it. -/
def sigItem (j : Fin 16) : sProp 𝕄 := iprop(dutyTok ER (barCell (ahead c j)) 0 (opp j) ∗ ∃ f, colPts c (ahead c j) f)
def sigSt (k : ℕ) : sProp 𝕄 := iprop(bigSep (pend k) (fun j => sigItem c j) ∗ owing c (Oat c k))

theorem step_sig {α : Type} {Q : α → sProp 𝕄} {pg : PUnit → Prog (TpuEff nD τ sig (Elt F) Λ₀ .tc) α}
    {k : ℕ} (h1 : 1 ≤ k) (h : k < 16) {n : Dev nD} (hn : n = ahead c ⟨k, h⟩) {k' : ℕ} (hk : 1 = k') :
    iprop(records m ρ K ∗ sigSt c k)
      ⊢ iprop((sigSt c (k + 1) -∗ wp frame (wpE (defs₀ (F := F)) 𝒱₀ (c : Thread nD τ) none) Set.univ (pg ⟨⟩) Q) -∗ wp frame (wpE (defs₀ (F := F)) 𝒱₀ (c : Thread nD τ) none) Set.univ (.op (.semSignal (n : Thread nD τ) barS k') pg) Q) := by
  subst hn
  unfold sigSt owing
  rw [bigSep_pend h]
  unfold sigItem
  iintro ⟨#HR, ⟨⟨Htok, Hcol⟩, Hrest⟩, ⟨%W, HO⟩⟩ Hk
  ihave Hrec := (records_bar m ρ K (ahead c ⟨k, h⟩)) $$ HR
  icases Hrec with ⟨#HI, #Hr⟩
  iapply (Rounds.wp_signal 𝒱₀ ER (exRd m ρ) (c : Thread nD τ) none (dst := (ahead c ⟨k, h⟩ : Thread nD τ)) (κ := K (ahead c ⟨k, h⟩, none))
      (d := opp ⟨k, h⟩) (by rw [duties_bar]; exact opp_mem (ne_zero_of_le h1 h)) ((amount_bar m ρ _ _).trans hk) () (Oat c (k + 1))
      ((Oat_step c h).trans (by rw [hk]))) $$ [HO Htok Hcol]
  · isplitr; · iexact HI
    isplitl [HO]; · iexact HO
    isplitl [Htok]; · iexact Htok
    isplitl [Hcol]
    · rw [payload_bar]; unfold barPay; rw [ahead_opp]; iexact Hcol
    iexact Hr
  iintro HO
  iapply Hk
  isplitl [Hrest]; · iexact Hrest
  iexists W; iexact HO

/-- The barrier wait: all fifteen peers have entered, and their column blocks for `c` are `c`'s to write. -/
theorem step_bar {α : Type} {Q : α → sProp 𝕄} {pg : PUnit → Prog (TpuEff nD τ sig (Elt F) Λ₀ .tc) α}
    {k' : ℕ} (hk : k' = 15) :
    iprop(records m ρ K ∗ levAts L lv ∗ cred (tallyAt (barCell c) () 15) ∗ atPos ER (barCell c) 0 ∅ 0 ∗ owing c (Oat c 16))
      ⊢ iprop(((bigSep (pend 1) (fun i => barPay c i) ∗ semVal (barCell c) 0 ∗ owing c (Osend c 1)) -∗ wp frame (wpE (defs₀ (F := F)) 𝒱₀ (c : Thread nD τ) none) Set.univ (pg ⟨⟩) Q)
          -∗ wp frame (wpE (defs₀ (F := F)) 𝒱₀ (c : Thread nD τ) none) Set.univ (.op (.semWait barS k') pg) Q) := by
  subst hk
  unfold owing
  rw [Oat_16]
  iintro ⟨#HR, #Hlev, Hc, Hat, ⟨%W, HO⟩⟩ Hk
  ihave Hrec := (records_bar m ρ K c) $$ HR
  icases Hrec with ⟨#HI, -⟩
  iapply (Rounds.wp_wait_rest_token 𝒱₀ ER (exRd m ρ) (c : Thread nD τ) none (κ := K (c, none))
      (wpE_semWait_eq 𝒱₀ (c : Thread nD τ) none Set.univ) (Set.mem_univ _) () (O := Osend c 1) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (exRd m ρ) (Set.mem_univ (K (c, none))) (fun h => h) (R := 0 + 1) (duties_later m ρ (barCell c))) $$ [Hat] with Hz
  · isplitr; · iexact HI
    iexact Hat
  iapply Hk
  isplitl [Hpay]; · iapply (Entails.of_eq (rest_bar m ρ c)); iexact Hpay
  isplitl [Hz]; · iexact Hz
  iexists _; iexact HO

/-! ## Sends -/

omit [FloatOps F] in
theorem credit_col (n : Dev nD) (q : DmaSem sig) : (colM n).view.amount (.dma q) = N := rfl

/-- For the peer at offset `j`: the two duties the transfer pays, the rows it reads, the columns it writes. -/
def sndItem (j : Fin 16) : sProp 𝕄 :=
  iprop(dutyTok ER (sendCell c j) 0 0 ∗ dutyTok ER (recvCell (ahead c j) j) 0 0 ∗ rowPts m ρ c (ahead c j) ∗ ∃ f, colPts (ahead c j) c f)
def sndSt (k : ℕ) : sProp 𝕄 :=
  iprop(bigSep (pend k) (fun j => sndItem m ρ c j) ∗ bigSep (did k) (fun j => cred (tallyAt (sendCell c j) () N)) ∗ owing c (Osend c k))

omit [FloatOps F] in
/-- A block sent to `n` and landed there is what the receive cell's duty hands over. -/
theorem landed_pay (n : Dev nD) (j : Fin 16) (hn : n = ahead c j) (fd : (cc0_scratch0 : Ref sig .tc).ty.Contents (Elt F)) :
    ((colM c).view.loc (n : Thread nD τ) ↦[(colM c).view.set]{fullShare}
        ((colM c).view.write (Elt F) fd ((rowM n).view.read (Elt F) (xstg m ρ c)) Finset.univ) : sProp 𝕄)
      ⊢ (exRd m ρ).payload (recvCell n j) 0 0 := by
  subst hn
  rw [payload_recv]; unfold recvPay colPts
  rw [ahead_opp]
  exact Entails.of_eq (pointsTo_congr (landed_eq m ρ (ahead c j) c fd))

/-- One transfer, of the rows for `n` into `n`'s columns for `c`: it pays a send duty of `c`'s and a receive duty of `n`'s. -/
theorem wp_xfer {α : Type} {Q : α → sProp 𝕄} {pg : PUnit → Prog (TpuEff nD τ sig (Elt F) Λ₀ .tc) α}
    (j : Fin 16) (hj : j ∈ pend 1) {inbx : ∀ a, rowOff (ahead c j) a + S256x256.size a ≤ S4096x256.size a} {inbg : ∀ a, colOff c a + S256x256.size a ≤ S256x4096.size a}
    {hux : ∀ a, (Rect.unit (s := S4096x256) (rowOff (ahead c j)) S256x256.size inbx).stride a = 1}
    {hug : ∀ a, (Rect.unit (s := S256x4096) (colOff c) S256x256.size inbg).stride a = 1}
    {hsc : ((Memref.whole cc0_scratch0 : Memref sig (Dev.tc (ahead c j) : Thread nD τ).2.kind .vmem S256x4096 .i8).slice (Rect.unit (s := S256x4096) (colOff c) S256x256.size inbg) hug).view.ref.isScScratch = false}
    {hsrc : (xM.slice (Rect.unit (s := S4096x256) (rowOff (ahead c j)) S256x256.size inbx) hux).view.WordExact}
    {hdst : ((Memref.whole cc0_scratch0 : Memref sig (Dev.tc (ahead c j) : Thread nD τ).2.kind .vmem S256x4096 .i8).slice (Rect.unit (s := S256x4096) (colOff c) S256x256.size inbg) hug).view.WordExact}
    {hsem : DmaTarget.Typed .vmem (.dma (recvS j)) (.remote (Dev.tc (ahead c j) : Thread nD τ)
      ((Memref.whole cc0_scratch0 : Memref sig (Dev.tc (ahead c j) : Thread nD τ).2.kind .vmem S256x4096 .i8).slice (Rect.unit (s := S256x4096) (colOff c) S256x256.size inbg) hug) (.dma (sendS j)) hsc)}
    (fd : (cc0_scratch0 : Ref sig .tc).ty.Contents (Elt F)) {O₀ O : CellTallies nD τ sig Unit} (hO : O₀ = O + tallyAt (recvCell (ahead c j) j) () N)
    (W : Waits sig Unit) :
    iprop(cellInv ER (exRd m ρ) (K (c, some (false, j))) (sendCell c j) ∗ cellInv ER (exRd m ρ) (K (ahead c j, some (true, j))) (recvCell (ahead c j) j)
        ∗ rowPts m ρ c (ahead c j) ∗ colPts (ahead c j) c fd
        ∗ owes (c : Thread nD τ) O₀ W
        ∗ dutyTok ER (sendCell c j) 0 0 ∗ reached ER (sendCell c j) 0
        ∗ dutyTok ER (recvCell (ahead c j) j) 0 0 ∗ reached ER (recvCell (ahead c j) j) 0)
      ⊢ iprop(((cred (tallyAt (sendCell c j) () N) ∗ owes (c : Thread nD τ) O W) -∗ wp frame (wpE (defs₀ (F := F)) 𝒱₀ (c : Thread nD τ) none) Set.univ (pg ⟨⟩) Q)
          -∗ wp frame (wpE (defs₀ (F := F)) 𝒱₀ (c : Thread nD τ) none) Set.univ
            (.op (.enqueueDma (xM.slice (Rect.unit (s := S4096x256) (rowOff (ahead c j)) S256x256.size inbx) hux)
              (.remote (Dev.tc (ahead c j) : Thread nD τ)
                ((Memref.whole cc0_scratch0 : Memref sig (Dev.tc (ahead c j) : Thread nD τ).2.kind .vmem S256x4096 .i8).slice (Rect.unit (s := S256x4096) (colOff c) S256x256.size inbg) hug) (.dma (sendS j)) hsc)
              (.dma (recvS j)) hsrc hdst hsem) pg) Q) := by
  have hN : (colM c).view.amount (.dma (recvS j)) = N := credit_col c (recvS j)
  have hd₁ : (0 : Fin 16) ∈ (exRd m ρ).duties (sendCell c j) 0 := by rw [duties_send m ρ c hj]; exact Finset.mem_singleton_self _
  have hd₂ : (0 : Fin 16) ∈ (exRd m ρ).duties (recvCell (ahead c j) j) 0 := by rw [duties_recv m ρ _ hj]; exact Finset.mem_singleton_self _
  have hp₁ : ((rowM (ahead c j)).view.loc (c : Thread nD τ) ↦[(rowM (ahead c j)).view.set]{fullShare} (xstg m ρ c) : sProp 𝕄)
      ⊢ (exRd m ρ).payload (sendCell c j) 0 0 := by rw [payload_send]; exact BI.Entails.refl _
  have hp₂ := landed_pay m ρ c _ j rfl fd
  have hr : τ.routes (c : Thread nD τ) (Dev.tc (ahead c j)) = true := by routes
  unfold rowPts colPts
  exact Rounds.wp_send_pointsTo (c' := Dev.tc (ahead c j)) (src := rowM (ahead c j)) (dst := colM c) (sS := .dma (sendS j)) (sem := .dma (recvS j))
      𝒱₀ ER (exRd m ρ) (c : Thread nD τ) none (κ₁ := K (c, some (false, j))) (κ₂ := K (ahead c j, some (true, j)))
      (q := fullShare) (fs := xstg m ρ c) (fd := fd)
      hd₁ hd₂ () () N hN (amount_send m ρ c j 0) (amount_recv m ρ (ahead c j) j 0) O hO (W := W) hp₁ hp₂ hr

theorem step_send {α : Type} {Q : α → sProp 𝕄} {pg : PUnit → Prog (TpuEff nD τ sig (Elt F) Λ₀ .tc) α}
    {k : ℕ} (h1 : 1 ≤ k) (h : k < 16) {n : Dev nD} (hn : n = ahead c ⟨k, h⟩)
    {offx offg : Fin 2 → ℕ} (hx : offx = rowOff (ahead c ⟨k, h⟩)) (hg : offg = colOff c)
    {inbx : ∀ a, offx a + S256x256.size a ≤ S4096x256.size a} {inbg : ∀ a, offg a + S256x256.size a ≤ S256x4096.size a}
    {hux : ∀ a, (Rect.unit (s := S4096x256) offx S256x256.size inbx).stride a = 1}
    {hug : ∀ a, (Rect.unit (s := S256x4096) offg S256x256.size inbg).stride a = 1}
    {sS sR : DmaSem sig} (hS : sS = sendS ⟨k, h⟩) (hR : sR = recvS ⟨k, h⟩)
    {hsc : ((Memref.whole cc0_scratch0 : Memref sig (Dev.tc n : Thread nD τ).2.kind .vmem S256x4096 .i8).slice (Rect.unit (s := S256x4096) offg S256x256.size inbg) hug).view.ref.isScScratch = false}
    {hsrc : (xM.slice (Rect.unit (s := S4096x256) offx S256x256.size inbx) hux).view.WordExact}
    {hdst : ((Memref.whole cc0_scratch0 : Memref sig (Dev.tc n : Thread nD τ).2.kind .vmem S256x4096 .i8).slice (Rect.unit (s := S256x4096) offg S256x256.size inbg) hug).view.WordExact}
    {hsem : DmaTarget.Typed .vmem (.dma sR) (.remote (Dev.tc n : Thread nD τ)
      ((Memref.whole cc0_scratch0 : Memref sig (Dev.tc n : Thread nD τ).2.kind .vmem S256x4096 .i8).slice (Rect.unit (s := S256x4096) offg S256x256.size inbg) hug) (.dma sS) hsc)} :
    iprop(records m ρ K ∗ sndSt m ρ c k)
      ⊢ iprop((sndSt m ρ c (k + 1) -∗ wp frame (wpE (defs₀ (F := F)) 𝒱₀ (c : Thread nD τ) none) Set.univ (pg ⟨⟩) Q)
          -∗ wp frame (wpE (defs₀ (F := F)) 𝒱₀ (c : Thread nD τ) none) Set.univ (.op (.enqueueDma (xM.slice (Rect.unit (s := S4096x256) offx S256x256.size inbx) hux)
              (.remote (Dev.tc n : Thread nD τ)
                ((Memref.whole cc0_scratch0 : Memref sig (Dev.tc n : Thread nD τ).2.kind .vmem S256x4096 .i8).slice (Rect.unit (s := S256x4096) offg S256x256.size inbg) hug) (.dma sS) hsc)
              (.dma sR) hsrc hdst hsem) pg) Q) := by
  subst hn hx hg hS hR
  unfold sndSt owing
  rw [bigSep_pend h, bigSep_did h1 h]
  unfold sndItem
  iintro ⟨#HR, ⟨⟨HtS, HtV, Hrow, ⟨%fd, Hcol⟩⟩, Hrest⟩, Hdone, ⟨%W, HO⟩⟩ Hk
  ihave Hrec := (records_send m ρ K c ⟨k, h⟩) $$ HR
  icases Hrec with ⟨#HIs, #Hrs⟩
  ihave Hrec := (records_recv m ρ K (ahead c ⟨k, h⟩) ⟨k, h⟩) $$ HR
  icases Hrec with ⟨#HIv, #Hrv⟩
  iapply (wp_xfer m ρ K c ⟨k, h⟩ (ne_zero_of_le h1 h) fd (Osend_step c h) W) $$ [Hrow Hcol HO HtS HtV]
  · isplitr; · iexact HIs
    isplitr; · iexact HIv
    isplitl [Hrow]; · iexact Hrow
    isplitl [Hcol]; · iexact Hcol
    isplitl [HO]; · iexact HO
    isplitl [HtS]; · iexact HtS
    isplitr; · iexact Hrs
    isplitl [HtV]; · iexact HtV
    iexact Hrv
  iintro ⟨Hc, HO⟩
  iapply Hk
  isplitl [Hrest]; · iexact Hrest
  isplitl [Hc Hdone]
  · isplitl [Hc]; · iexact Hc
    iexact Hdone
  iexists W; iexact HO

/-! ## Waits for the incoming blocks -/

def rcvItem (j : Fin 16) : sProp 𝕄 := iprop(cred (tallyAt (recvCell c j) () N) ∗ atPos ER (recvCell c j) 0 ∅ 0)
def rcvDone (j : Fin 16) : sProp 𝕄 := iprop(colPts c (ahead c (opp j)) (allx m ρ c) ∗ semVal (recvCell c j) 0)
def rcvSt (k : ℕ) : sProp 𝕄 :=
  iprop(bigSep (pend k) (fun j => rcvItem c j) ∗ bigSep (did k) (fun j => rcvDone m ρ c j) ∗ owing c 0)

/-- A wait for a block of columns to have come in. -/
theorem step_recv {α : Type} {Q : α → sProp 𝕄} {pg : PUnit → Prog (TpuEff nD τ sig (Elt F) Λ₀ .tc) α}
    {k : ℕ} (h1 : 1 ≤ k) (h : k < 16) {sR : DmaSem sig} (hR : sR = recvS ⟨k, h⟩)
    {offg : Fin 2 → ℕ} {inbg : ∀ a, offg a + S256x256.size a ≤ S256x4096.size a}
    {hug : ∀ a, (Rect.unit (s := S256x4096) offg S256x256.size inbg).stride a = 1}
    {src : Memref sig .tc .vmem S256x256 .i8} {hsrc : src.view.WordExact}
    {hdst : (gM.slice (Rect.unit (s := S256x4096) offg S256x256.size inbg) hug).view.WordExact} :
    iprop(records m ρ K ∗ rcvSt m ρ c k)
      ⊢ iprop((rcvSt m ρ c (k + 1) -∗ wp frame (wpE (defs₀ (F := F)) 𝒱₀ (c : Thread nD τ) none) Set.univ (pg ⟨⟩) Q) -∗ wp frame (wpE (defs₀ (F := F)) 𝒱₀ (c : Thread nD τ) none) Set.univ (.op (.waitDma2 sR src (gM.slice (Rect.unit (s := S256x4096) offg S256x256.size inbg) hug) hsrc hdst) pg) Q) := by
  subst hR
  have hN : (gM.slice (Rect.unit (s := S256x4096) offg S256x256.size inbg) hug).view.dmaCredit = N := rfl
  unfold rcvSt owing
  rw [bigSep_pend h, bigSep_did h1 h]
  unfold rcvItem
  iintro ⟨#HR, ⟨⟨Hc, Hat⟩, Hrest⟩, Hdone, ⟨%W, HO⟩⟩ Hk
  ihave Hrec := (records_recv m ρ K c ⟨k, h⟩) $$ HR
  icases Hrec with ⟨#HI, -⟩
  iapply (Rounds.wp_wait_rest_token 𝒱₀ ER (exRd m ρ) (c : Thread nD τ) none (κ := K (c, some (true, ⟨k, h⟩)))
      (wpE_waitDma2_eq 𝒱₀ (c : Thread nD τ) none Set.univ) (Set.mem_univ _) () (O := 0) (W := W) (R := 0) (m := 0) (T := ∅)
      (by rw [Nat.zero_add, expect_recv m ρ c (ne_zero_of_le h1 h), hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (exRd m ρ) (Set.mem_univ (K (c, some (true, ⟨k, h⟩)))) (fun h => h) (R := 0 + 1) (duties_later m ρ (recvCell c ⟨k, h⟩))) $$ [Hat] with Hz
  · isplitr; · iexact HI
    iexact Hat
  iapply Hk
  isplitl [Hrest]; · iexact Hrest
  isplitl [Hpay Hz Hdone]
  · isplitl [Hpay Hz]
    · unfold rcvDone; rw [show colPts c (ahead c (opp ⟨k, h⟩)) (allx m ρ c) = recvPay m ρ c ⟨k, h⟩ from rfl]
      isplitl [Hpay]; · iapply (Entails.of_eq (rest_recv m ρ c (ne_zero_of_le h1 h))); iexact Hpay
      iexact Hz
    iexact Hdone
  iexists _; iexact HO

/-! ## Waits for the sends to have left -/

def outItem (j : Fin 16) : sProp 𝕄 := iprop(cred (tallyAt (sendCell c j) () N) ∗ atPos ER (sendCell c j) 0 ∅ 0)
def outDone (j : Fin 16) : sProp 𝕄 := iprop(rowPts m ρ c (ahead c j) ∗ semVal (sendCell c j) 0)
def outSt (k : ℕ) : sProp 𝕄 :=
  iprop(bigSep (pend k) (fun j => outItem c j) ∗ bigSep (did k) (fun j => outDone m ρ c j) ∗ owing c 0)

/-- A wait for a block of rows to have left. -/
theorem step_out {α : Type} {Q : α → sProp 𝕄} {pg : PUnit → Prog (TpuEff nD τ sig (Elt F) Λ₀ .tc) α}
    {k : ℕ} (h1 : 1 ≤ k) (h : k < 16) {sS : DmaSem sig} (hS : sS = sendS ⟨k, h⟩)
    {offx : Fin 2 → ℕ} {inbx : ∀ a, offx a + S256x256.size a ≤ S4096x256.size a}
    {hux : ∀ a, (Rect.unit (s := S4096x256) offx S256x256.size inbx).stride a = 1}
    {src : Memref sig .tc .vmem S256x256 .i8} {hsrc : src.view.WordExact}
    {hdst : (xM.slice (Rect.unit (s := S4096x256) offx S256x256.size inbx) hux).view.WordExact} :
    iprop(records m ρ K ∗ outSt m ρ c k)
      ⊢ iprop((outSt m ρ c (k + 1) -∗ wp frame (wpE (defs₀ (F := F)) 𝒱₀ (c : Thread nD τ) none) Set.univ (pg ⟨⟩) Q) -∗ wp frame (wpE (defs₀ (F := F)) 𝒱₀ (c : Thread nD τ) none) Set.univ (.op (.waitDma2 sS src (xM.slice (Rect.unit (s := S4096x256) offx S256x256.size inbx) hux) hsrc hdst) pg) Q) := by
  subst hS
  have hN : (xM.slice (Rect.unit (s := S4096x256) offx S256x256.size inbx) hux).view.dmaCredit = N := rfl
  unfold outSt owing
  rw [bigSep_pend h, bigSep_did h1 h]
  unfold outItem
  iintro ⟨#HR, ⟨⟨Hc, Hat⟩, Hrest⟩, Hdone, ⟨%W, HO⟩⟩ Hk
  ihave Hrec := (records_send m ρ K c ⟨k, h⟩) $$ HR
  icases Hrec with ⟨#HI, -⟩
  iapply (Rounds.wp_wait_rest_token 𝒱₀ ER (exRd m ρ) (c : Thread nD τ) none (κ := K (c, some (false, ⟨k, h⟩)))
      (wpE_waitDma2_eq 𝒱₀ (c : Thread nD τ) none Set.univ) (Set.mem_univ _) () (O := 0) (W := W) (R := 0) (m := 0) (T := ∅)
      (by rw [Nat.zero_add, expect_send m ρ c (ne_zero_of_le h1 h), hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (exRd m ρ) (Set.mem_univ (K (c, some (false, ⟨k, h⟩)))) (fun h => h) (R := 0 + 1) (duties_later m ρ (sendCell c ⟨k, h⟩))) $$ [Hat] with Hz
  · isplitr; · iexact HI
    iexact Hat
  iapply Hk
  isplitl [Hrest]; · iexact Hrest
  isplitl [Hpay Hz Hdone]
  · isplitl [Hpay Hz]
    · unfold outDone; rw [show rowPts m ρ c (ahead c ⟨k, h⟩) = sendPay m ρ c ⟨k, h⟩ from rfl]
      isplitl [Hpay]; · iapply (Entails.of_eq (rest_send m ρ c (ne_zero_of_le h1 h))); iexact Hpay
      iexact Hz
    iexact Hdone
  iexists _; iexact HO

end Steps

end Cert.KernelIdeal.Exch

end
-- ==== Proof.KernelIdeal.Phases.lean ====
/-
# Between the loops

What the program holds is regrouped where one loop ends and the next begins; and the one thing done outside the loops
before the product: the device puts its own block in its own columns.
-/
module

public import proofs.«01_k».proof.Proof.KernelIdeal.Steps
public import Idealize.ShloMosaic.Lib.Pipeline.Value

@[expose] public section

noncomputable section

namespace Cert.KernelIdeal.Exch

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ) (c : Dev nD)

/-! ## Entering and leaving the loops -/

omit [FloatOps F] in
theorem some_col (d n : Dev nD) (f : (cc0_scratch0 : Ref sig .tc).ty.Contents (Elt F)) : (colPts d n f : sProp 𝕄) ⊢ iprop(∃ f, colPts d n f) := by
  iintro H; iexists f; iexact H

omit [FloatOps F] in
theorem some_cols (f : (cc0_scratch0 : Ref sig .tc).ty.Contents (Elt F)) :
    (bigSep (pend 1) (fun j => colPts c (ahead c j) f) : sProp 𝕄) ⊢ bigSep (pend 1) fun j => iprop(∃ f, colPts c (ahead c j) f) :=
  bigSep_mono fun j _ => some_col c (ahead c j) f

omit [FloatOps F] in
/-- The gathering buffer, split: `c`'s own columns, and for each peer its columns with the right to signal it. -/
theorem sig_enter (f : (cc0_scratch0 : Ref sig .tc).ty.Contents (Elt F)) :
    iprop(bigSep (pend 1) (fun j => dutyTok ER (barCell (ahead c j)) 0 (opp j)) ∗ (((c : Thread nD τ).loc cc0_scratch0) ↦{fullShare} f) ∗ owing c (Oat c 1))
      ⊢ (iprop(sigSt c 1 ∗ colPts c c f) : sProp 𝕄) := by
  rw [cols_eq, bigSep_around c]
  unfold sigSt sigItem
  rw [bigSep_sep']
  iintro ⟨Ht, ⟨Hown, Hcols⟩, HO⟩
  isplitr [Hown]
  · isplitl [Ht Hcols]
    · isplitl [Ht]; · iexact Ht
      iapply (some_cols c f)
      iexact Hcols
    iexact HO
  iexact Hown

omit [FloatOps F] in
theorem sig_leave : (sigSt c 16 : sProp 𝕄) ⊢ owing c (Oat c 16) := by
  unfold sigSt
  iintro ⟨-, HO⟩
  iexact HO

omit [FloatOps F] in
/-- For each peer: the two duties of the send to it, the rows for it, its columns for `c`. -/
theorem snd_enter :
    iprop(bigSep (pend 1) (fun j => dutyTok ER (sendCell c j) 0 0) ∗ bigSep (pend 1) (fun j => dutyTok ER (recvCell (ahead c j) j) 0 0)
        ∗ bigSep (pend 1) (fun j => rowPts m ρ c (ahead c j)) ∗ bigSep (pend 1) (fun j => barPay c j) ∗ owing c (Osend c 1))
      ⊢ (sndSt m ρ c 1 : sProp 𝕄) := by
  unfold sndSt sndItem barPay
  rw [bigSep_did_1, bigSep_sep', bigSep_sep', bigSep_sep']
  iintro ⟨H1, H2, H3, H4, HO⟩
  isplitl [H1 H2 H3 H4]
  · isplitl [H1]; · iexact H1
    isplitl [H2]; · iexact H2
    isplitl [H3]; · iexact H3
    iexact H4
  isplitr; · iempintro
  iexact HO

omit [FloatOps F] in
theorem snd_leave : (sndSt m ρ c 16 : sProp 𝕄) ⊢ iprop(bigSep (pend 1) (fun j => cred (tallyAt (sendCell c j) () N)) ∗ owing c 0) := by
  unfold sndSt
  rw [did_16, Osend_16]
  iintro ⟨-, H, HO⟩
  isplitl [H]; · iexact H
  iexact HO

omit [FloatOps F] in
theorem rcv_enter :
    iprop(bigSep (pend 1) (fun j => cred (tallyAt (recvCell c j) () N)) ∗ bigSep (pend 1) (fun j => atPos ER (recvCell c j) 0 ∅ 0) ∗ owing c 0)
      ⊢ (rcvSt m ρ c 1 : sProp 𝕄) := by
  unfold rcvSt rcvItem
  rw [bigSep_did_1, bigSep_sep']
  iintro ⟨H1, H2, HO⟩
  isplitl [H1 H2]
  · isplitl [H1]; · iexact H1
    iexact H2
  isplitr; · iempintro
  iexact HO

omit [FloatOps F] in
/-- All blocks in: with `c`'s own columns, the gathering buffer is whole again and holds `c`'s rows of the whole `x`. -/
theorem rcv_leave :
    iprop(rcvSt m ρ c 16 ∗ colPts c c (allx m ρ c))
      ⊢ (iprop((((c : Thread nD τ).loc cc0_scratch0) ↦{fullShare} allx m ρ c) ∗ bigSep (pend 1) (fun j => semVal (recvCell c j) 0) ∗ owing c 0) : sProp 𝕄) := by
  unfold rcvSt rcvDone
  rw [did_16, bigSep_sep', cols_eq, bigSep_behind c]
  iintro ⟨⟨-, ⟨Hcols, Hz⟩, HO⟩, Hown⟩
  isplitl [Hown Hcols]
  · isplitl [Hown]; · iexact Hown
    iexact Hcols
  isplitl [Hz]; · iexact Hz
  iexact HO

omit [FloatOps F] in
theorem out_enter :
    iprop(bigSep (pend 1) (fun j => cred (tallyAt (sendCell c j) () N)) ∗ bigSep (pend 1) (fun j => atPos ER (sendCell c j) 0 ∅ 0) ∗ owing c 0)
      ⊢ (outSt m ρ c 1 : sProp 𝕄) := by
  unfold outSt outItem
  rw [bigSep_did_1, bigSep_sep']
  iintro ⟨H1, H2, HO⟩
  isplitl [H1 H2]
  · isplitl [H1]; · iexact H1
    iexact H2
  isplitr; · iempintro
  iexact HO

omit [FloatOps F] in
/-- All sends have left: the staged `x` block is whole again. -/
theorem out_leave :
    iprop(outSt m ρ c 16 ∗ rowPts m ρ c c)
      ⊢ (iprop((((c : Thread nD τ).loc cc0_stg0_0) ↦{fullShare} xstg m ρ c) ∗ bigSep (pend 1) (fun j => semVal (sendCell c j) 0) ∗ owing c 0) : sProp 𝕄) := by
  unfold outSt outDone
  rw [did_16, bigSep_sep', rows_eq, bigSep_around c]
  iintro ⟨⟨-, ⟨Hrows, Hz⟩, HO⟩, Hown⟩
  isplitl [Hown Hrows]
  · isplitl [Hown]; · iexact Hown
    iexact Hrows
  isplitl [Hz]; · iexact Hz
  iexact HO

/-- The two cells numbered 0, which no one uses, close as they are. -/
theorem close_unused :
    iprop(records m ρ K ∗ atPos ER (sendCell c 0) 0 ∅ 0 ∗ atPos ER (recvCell c 0) 0 ∅ 0)
      ⊢ (|={Set.univ}=> iprop(semVal (sendCell c 0) 0 ∗ semVal (recvCell c 0) 0) : sProp 𝕄) := by
  iintro ⟨#HR, HaS, HaV⟩
  ihave Hrec := (records_send m ρ K c 0) $$ HR
  icases Hrec with ⟨#HIs, -⟩
  ihave Hrec := (records_recv m ρ K c 0) $$ HR
  icases Hrec with ⟨#HIv, -⟩
  imod (Rounds.cell_close ER (exRd m ρ) (Set.mem_univ (K (c, some (false, 0)))) (fun h => h) (R := 0) (duties_send_0 m ρ c)) $$ [HaS] with HzS
  · isplitr; · iexact HIs
    iexact HaS
  imod (Rounds.cell_close ER (exRd m ρ) (Set.mem_univ (K (c, some (true, 0)))) (fun h => h) (R := 0) (duties_recv_0 m ρ c)) $$ [HaV] with HzV
  · isplitr; · iexact HIv
    iexact HaV
  imodintro
  isplitl [HzS]; · iexact HzS
  iexact HzV

/-! ## The device's own block -/

omit [FloatOps F] in
/-- The own rows, put in the own columns, are the gathered rows there. -/
theorem stored_eq (f : (cc0_scratch0 : Ref sig .tc).ty.Contents (Elt F)) :
    ∀ i ∈ (colM c).view.set,
      (colM c).view.write (Elt F) f (k0_pay2 ((rowM c).view.read (Elt F) (xstg m ρ c))) Finset.univ i = allx m ρ c i := by
  have h : k0_pay2 ((rowM c).view.read (Elt F) (xstg m ρ c)) = (rowM c).view.read (Elt F) (xstg m ρ c) := by
    unfold k0_pay2; exact (shapeCast_self _ _).trans (shapeCast_self _ _)
  rw [h]
  exact landed_eq m ρ c c f

theorem step_own {α : Type} {Q : α → sProp 𝕄} {pg : PUnit → Prog (TpuEff nD τ sig (Elt F) Λ₀ .tc) α}
    {offx offg : Fin 2 → ℕ} (hx : offx = rowOff c) (hg : offg = colOff c)
    {inbx : ∀ a, offx a + S256x256.size a ≤ S4096x256.size a} {inbg : ∀ a, offg a + S256x256.size a ≤ S256x4096.size a}
    {hlx : xM.view.LoadsAt (Rect.unit (s := S4096x256) offx S256x256.size inbx).toLoadRect}
    {hlg : gM.view.LoadsAt (Rect.unit (s := S256x4096) offg S256x256.size inbg).toLoadRect}
    {hst : (gM.access (Rect.unit (s := S256x4096) offg S256x256.size inbg)).Stores Finset.univ}
    {hm : (Finset.univ : Finset (Rect.unit (s := S256x4096) offg S256x256.size inbg).shape.Idx) = Finset.univ ∨ ∀ a, (Rect.unit (s := S256x4096) offg S256x256.size inbg).stride a = 1}
    (f : (cc0_scratch0 : Ref sig .tc).ty.Contents (Elt F)) :
    iprop(rowPts m ρ c c ∗ colPts c c f)
      ⊢ iprop(((rowPts m ρ c c ∗ colPts c c (allx m ρ c)) -∗ wp frame (wpE (defs₀ (F := F)) 𝒱₀ (c : Thread nD τ) none) Set.univ (pg ⟨⟩) Q)
          -∗ wp frame (wpE (defs₀ (F := F)) 𝒱₀ (c : Thread nD τ) none) Set.univ
            (.op (.load xM (Rect.unit (s := S4096x256) offx S256x256.size inbx).toLoadRect hlx) fun v =>
              .op (.load gM (Rect.unit (s := S256x4096) offg S256x256.size inbg).toLoadRect hlg) fun _ =>
              .op (.store gM (Rect.unit (s := S256x4096) offg S256x256.size inbg) (k0_pay2 v) Finset.univ hst hm) pg) Q) := by
  subst hx hg
  unfold rowPts colPts
  iintro ⟨Hx, Hg⟩ Hk
  iapply (wp_load_rect 𝒱₀ (c : Thread nD τ) none Set.univ (m := xM) (r := Rect.unit (s := S4096x256) (rowOff c) S256x256.size (rowOff_inb c)) (S := (rowM c).view.set) (f := xstg m ρ c) (q := fullShare) (Finset.Subset.refl _)) $$ Hx; iintro Hx
  iapply (wp_load_rect 𝒱₀ (c : Thread nD τ) none Set.univ (m := gM) (r := Rect.unit (s := S256x4096) (colOff c) S256x256.size (colOff_inb c)) (S := (colM c).view.set) (f := f) (q := fullShare) (Finset.Subset.refl _)) $$ Hg; iintro Hg
  iapply (wp_store 𝒱₀ (c : Thread nD τ) none Set.univ (m := gM) (r := Rect.unit (s := S256x4096) (colOff c) S256x256.size (colOff_inb c)) (Mk := Finset.univ) (S := (colM c).view.set) (f := f) (Finset.Subset.refl _)) $$ Hg; iintro Hg
  iapply Hk
  isplitl [Hx]; · iexact Hx
  iapply (Entails.of_eq (pointsTo_congr (stored_eq m ρ c f)))
  iexact Hg

end Cert.KernelIdeal.Exch

end
-- ==== Proof.KernelIdeal.Body.lean ====
/-
# The kernel's body

From the exchange's duties, the launch credit, and its buffers, a device runs its program to the end: the four loops by
their steps, the product and the scaling by loads and stores.
-/
module

public import proofs.«01_k».proof.Proof.KernelIdeal.Phases

@[expose] public section

noncomputable section

namespace Cert.KernelIdeal.Exch

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed device and offset arithmetic -/

theorem sig_dev_1 : ∀ c : Dev nD, (⟨k0_dev1 c, k0_dev1_lt c⟩ : Dev nD) = ahead c 1 := by decide +kernel
theorem sig_dev_2 : ∀ c : Dev nD, (⟨k0_dev2 c, k0_dev2_lt c⟩ : Dev nD) = ahead c 2 := by decide +kernel
theorem sig_dev_3 : ∀ c : Dev nD, (⟨k0_dev3 c, k0_dev3_lt c⟩ : Dev nD) = ahead c 3 := by decide +kernel
theorem sig_dev_4 : ∀ c : Dev nD, (⟨k0_dev4 c, k0_dev4_lt c⟩ : Dev nD) = ahead c 4 := by decide +kernel
theorem sig_dev_5 : ∀ c : Dev nD, (⟨k0_dev5 c, k0_dev5_lt c⟩ : Dev nD) = ahead c 5 := by decide +kernel
theorem sig_dev_6 : ∀ c : Dev nD, (⟨k0_dev6 c, k0_dev6_lt c⟩ : Dev nD) = ahead c 6 := by decide +kernel
theorem sig_dev_7 : ∀ c : Dev nD, (⟨k0_dev7 c, k0_dev7_lt c⟩ : Dev nD) = ahead c 7 := by decide +kernel
theorem sig_dev_8 : ∀ c : Dev nD, (⟨k0_dev8 c, k0_dev8_lt c⟩ : Dev nD) = ahead c 8 := by decide +kernel
theorem sig_dev_9 : ∀ c : Dev nD, (⟨k0_dev9 c, k0_dev9_lt c⟩ : Dev nD) = ahead c 9 := by decide +kernel
theorem sig_dev_10 : ∀ c : Dev nD, (⟨k0_dev10 c, k0_dev10_lt c⟩ : Dev nD) = ahead c 10 := by decide +kernel
theorem sig_dev_11 : ∀ c : Dev nD, (⟨k0_dev11 c, k0_dev11_lt c⟩ : Dev nD) = ahead c 11 := by decide +kernel
theorem sig_dev_12 : ∀ c : Dev nD, (⟨k0_dev12 c, k0_dev12_lt c⟩ : Dev nD) = ahead c 12 := by decide +kernel
theorem sig_dev_13 : ∀ c : Dev nD, (⟨k0_dev13 c, k0_dev13_lt c⟩ : Dev nD) = ahead c 13 := by decide +kernel
theorem sig_dev_14 : ∀ c : Dev nD, (⟨k0_dev14 c, k0_dev14_lt c⟩ : Dev nD) = ahead c 14 := by decide +kernel
theorem sig_dev_15 : ∀ c : Dev nD, (⟨k0_dev15 c, k0_dev15_lt c⟩ : Dev nD) = ahead c 15 := by decide +kernel
theorem snd_dev_1 : ∀ c : Dev nD, (⟨k0_dev16 c, k0_dev16_lt c⟩ : Dev nD) = ahead c 1 := by decide +kernel
theorem snd_dev_2 : ∀ c : Dev nD, (⟨k0_dev17 c, k0_dev17_lt c⟩ : Dev nD) = ahead c 2 := by decide +kernel
theorem snd_dev_3 : ∀ c : Dev nD, (⟨k0_dev18 c, k0_dev18_lt c⟩ : Dev nD) = ahead c 3 := by decide +kernel
theorem snd_dev_4 : ∀ c : Dev nD, (⟨k0_dev19 c, k0_dev19_lt c⟩ : Dev nD) = ahead c 4 := by decide +kernel
theorem snd_dev_5 : ∀ c : Dev nD, (⟨k0_dev20 c, k0_dev20_lt c⟩ : Dev nD) = ahead c 5 := by decide +kernel
theorem snd_dev_6 : ∀ c : Dev nD, (⟨k0_dev21 c, k0_dev21_lt c⟩ : Dev nD) = ahead c 6 := by decide +kernel
theorem snd_dev_7 : ∀ c : Dev nD, (⟨k0_dev22 c, k0_dev22_lt c⟩ : Dev nD) = ahead c 7 := by decide +kernel
theorem snd_dev_8 : ∀ c : Dev nD, (⟨k0_dev23 c, k0_dev23_lt c⟩ : Dev nD) = ahead c 8 := by decide +kernel
theorem snd_dev_9 : ∀ c : Dev nD, (⟨k0_dev24 c, k0_dev24_lt c⟩ : Dev nD) = ahead c 9 := by decide +kernel
theorem snd_dev_10 : ∀ c : Dev nD, (⟨k0_dev25 c, k0_dev25_lt c⟩ : Dev nD) = ahead c 10 := by decide +kernel
theorem snd_dev_11 : ∀ c : Dev nD, (⟨k0_dev26 c, k0_dev26_lt c⟩ : Dev nD) = ahead c 11 := by decide +kernel
theorem snd_dev_12 : ∀ c : Dev nD, (⟨k0_dev27 c, k0_dev27_lt c⟩ : Dev nD) = ahead c 12 := by decide +kernel
theorem snd_dev_13 : ∀ c : Dev nD, (⟨k0_dev28 c, k0_dev28_lt c⟩ : Dev nD) = ahead c 13 := by decide +kernel
theorem snd_dev_14 : ∀ c : Dev nD, (⟨k0_dev29 c, k0_dev29_lt c⟩ : Dev nD) = ahead c 14 := by decide +kernel
theorem snd_dev_15 : ∀ c : Dev nD, (⟨k0_dev30 c, k0_dev30_lt c⟩ : Dev nD) = ahead c 15 := by decide +kernel
/-- The rows for the peer at offset `r + 1`. -/
theorem off2_eq : ∀ (r : Fin 15) (c : Dev nD), k0_off2 c (BitVec.ofNat 32 (1 + r.val)) = rowOff (ahead c r.succ) := by decide +kernel

/-! ## Contents -/

/-- The weights device `c` stages; -/
def wstg (c : Dev nD) : (cc0_stg1_0 : Ref sig .tc).ty.Contents (Elt F) :=
  (win0_1.blk (0 : Fin 1)).view.read (Elt F) ((s₀ m ρ).mem ((c : Thread nD τ).loc main_arg1))
/-- the scale of `x`, and -/
def sxstg (c : Dev nD) : (cc0_stg2_0 : Ref sig .tc).ty.Contents (Elt F) :=
  (win0_2.blk (0 : Fin 1)).view.read (Elt F) ((s₀ m ρ).mem ((c : Thread nD τ).loc main_arg2))
/-- the scale of the weights. -/
def swstg (c : Dev nD) : (cc0_stg3_0 : Ref sig .tc).ty.Contents (Elt F) :=
  (win0_3.blk (0 : Fin 1)).view.read (Elt F) ((s₀ m ρ).mem ((c : Thread nD τ).loc main_arg3))

/-- The one entry of a scale. -/
abbrev one0 : S1.Idx := Shape.Idx.first (numel1_S1.symm ▸ Nat.one_pos)

/-- The block of the result device `c` computes: its rows of `x` by the weights, scaled, cut off below zero. -/
def outAt (c : Dev nD) : (cc0_stg4_0 : Ref sig .tc).ty.Contents (Elt F) :=
  k0_pay1 (k0_pay4 (sxstg m ρ c one0) (swstg m ρ c one0)) (k0_pay5 (F := F) (k0_pay3 (F := F) (allx m ρ c) (wstg m ρ c)))

/-! ## Before and after -/

/-- The exchange's ghost state device `c` starts from: the records of all cells; its positions at its own cells; the tokens
    of the duties it pays. -/
def ghost (K : Dev nD × CellIx → ℕ) (c : Dev nD) : sProp 𝕄 :=
  iprop(records m ρ K
    ∗ atPos ER (barCell c) 0 ∅ 0 ∗ bigSep Finset.univ (fun j => atPos ER (sendCell c j) 0 ∅ 0) ∗ bigSep Finset.univ (fun j => atPos ER (recvCell c j) 0 ∅ 0)
    ∗ bigSep (pend 1) (fun j => dutyTok ER (barCell (ahead c j)) 0 (opp j)) ∗ bigSep (pend 1) (fun j => dutyTok ER (sendCell c j) 0 0)
    ∗ bigSep (pend 1) (fun j => dutyTok ER (recvCell (ahead c j) j) 0 0))

/-- That, with the launch credit of its own cells and the levels. -/
def start (c : Dev nD) : sProp 𝕄 :=
  iprop((∃ K, ghost m ρ K c) ∗ cred (tallyAt (barCell c) () 15) ∗ bigSep (pend 1) (fun j => cred (tallyAt (recvCell c j) () N)) ∗ levAts L lv)

def Φ₀ (c : Dev nD) : sProp 𝕄 := iprop(start m ρ c ∗ ∃ f, (((c : Thread nD τ).loc cc0_scratch0) ↦{fullShare} f))
/-- After: the gathering buffer holding `c`'s rows, every cell of `c`'s at zero. -/
def Φ₁ (c : Dev nD) : sProp 𝕄 :=
  iprop((((c : Thread nD τ).loc cc0_scratch0) ↦{fullShare} allx m ρ c) ∗ semVal (barCell c) 0
    ∗ bigSep Finset.univ (fun j => semVal (sendCell c j) 0) ∗ bigSep Finset.univ (fun j => semVal (recvCell c j) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => Oat c 1
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × CellIx → ℕ)

def bodyPre (c : Dev nD) : sProp 𝕄 :=
  iprop((ghost m ρ K c ∗ cred (tallyAt (barCell c) () 15) ∗ bigSep (pend 1) (fun j => cred (tallyAt (recvCell c j) () N)) ∗ levAts L lv
      ∗ ∃ f, (((c : Thread nD τ).loc cc0_scratch0) ↦{fullShare} f))
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

omit [FloatOps F] in
theorem with_records (P : sProp 𝕄) : iprop(records m ρ K ∗ P) ⊢ iprop(records m ρ K ∗ P) := BI.Entails.refl _

omit [FloatOps F] in
/-- A step keeps the records. -/
theorem keep {P P' A B : sProp 𝕄} (h : iprop(records m ρ K ∗ P) ⊢ iprop((P' -∗ A) -∗ B)) :
    iprop(records m ρ K ∗ P) ⊢ iprop(((records m ρ K ∗ P') -∗ A) -∗ B) := by
  iintro ⟨#HR, HP⟩ Hk
  iapply h $$ [HP]
  · isplitr; · iexact HR
    iexact HP
  iintro HP
  iapply Hk
  isplitr; · iexact HR
  iexact HP

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl

abbrev sxM : Memref sig .tc .smem S1 .f32 := Memref.whole cc0_stg2_0
abbrev swM : Memref sig .tc .smem S1 .f32 := Memref.whole cc0_stg3_0
abbrev r1 : Rect S1 := Rect.unit (s := S1) ![0] S1.size inb_S1_S1_0
abbrev rO : Rect S256x2048 := Rect.unit (s := S256x2048) ![0, 0] S256x2048.size inb_S256x2048_S256x2048_0_0

omit [FloatOps F] in
theorem read_sx (f : (cc0_stg2_0 : Ref sig .tc).ty.Contents (Elt F)) : (sxM.access r1).read (Elt F) f = f :=
  Memref.readAt_unit_zero (Elt F) cc0_stg2_0 hz1 _ f
omit [FloatOps F] in
theorem read_sw (f : (cc0_stg3_0 : Ref sig .tc).ty.Contents (Elt F)) : (swM.access r1).read (Elt F) f = f :=
  Memref.readAt_unit_zero (Elt F) cc0_stg3_0 hz1 _ f
omit [FloatOps F] in
theorem read_g (f : (cc0_scratch0 : Ref sig .tc).ty.Contents (Elt F)) :
    gM.view.readAt (Elt F) (Rect.unit (s := S256x4096) ![0, 0] S256x4096.size inb_S256x4096_S256x4096_0_0).toLoadRect f = f :=
  Memref.readAt_unit_zero (Elt F) cc0_scratch0 hz2 _ f
omit [FloatOps F] in
theorem read_w (f : (cc0_stg1_0 : Ref sig .tc).ty.Contents (Elt F)) :
    wM.view.readAt (Elt F) (Rect.unit (s := S4096x2048) ![0, 0] S4096x2048.size inb_S4096x2048_S4096x2048_0_0).toLoadRect f = f :=
  Memref.readAt_unit_zero (Elt F) cc0_stg1_0 hz2 _ f
omit [FloatOps F] in
theorem write_o (f w : (cc0_stg4_0 : Ref sig .tc).ty.Contents (Elt F)) :
    (oM.access (Rect.unit (s := S256x2048) ![0, 0] S256x2048.size inb_S256x2048_S256x2048_0_0) : View sig .tc _ _ _).write (Elt F) f w Finset.univ = w :=
  Memref.write_access_unit_zero_univ (Elt F) cc0_stg4_0 hz2 _ f w

set_option maxRecDepth 65536 in
set_option maxHeartbeats 4000000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _) cc0_scratch1 cc0_scratch2) Kt := by
  simp only [cc0_body_eq_skeleton, cc0_body_skel, k0_part22_eq_skeleton, k0_part22_skel,
    k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel,
    semSignalWord, semWaitWord, smemLoad, smemLoadElt, Prog.lift, Prog.bind_op, Prog.bind_ret, Prog.pure_eq_ret, wp_deviceId]
  unfold bodyPre ghost
  iintro ⟨⟨⟨⟨#HR, HatB, HatS, HatV, HtB, HtS, HtV⟩, HcB, HcV, #Hlev, ⟨%f0, Hscr⟩⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  have hsx : g2 = sxstg m ρ c := by rw [hg2]; unfold Dat.before; rw [if_pos (fetch0_2 t0_0)]; rfl
  have hsw : g3 = swstg m ρ c := by rw [hg3]; unfold Dat.before; rw [if_pos (fetch0_3 t0_0)]; rfl
  subst hx hw hsx hsw
  unfold Dat.owesAt Pipeline.owesWithin
  icases Ho with ⟨%W, %hW, HO⟩
  rw [show (dats m ρ 0 c).owed t0_0.castSucc = Oat c 1 from rfl]
  -- the signals
  ihave H := (sig_enter (F := F) c f0) $$ [HtB Hscr HO]
  · isplitl [HtB]; · iexact HtB
    isplitl [Hscr]; · iexact Hscr
    unfold owing; iexists W; iexact HO
  icases H with ⟨H, Hown⟩
  ihave H := (with_records m ρ K (sigSt c 1)) $$ [H]
  · isplitr; · iexact HR
    iexact H
  iapply (keep m ρ K (step_sig m ρ K c (k := 1) (by decide) (by decide) (sig_dev_1 c) rfl)) $$ H; iintro H
  iapply (keep m ρ K (step_sig m ρ K c (k := 2) (by decide) (by decide) (sig_dev_2 c) rfl)) $$ H; iintro H
  iapply (keep m ρ K (step_sig m ρ K c (k := 3) (by decide) (by decide) (sig_dev_3 c) rfl)) $$ H; iintro H
  iapply (keep m ρ K (step_sig m ρ K c (k := 4) (by decide) (by decide) (sig_dev_4 c) rfl)) $$ H; iintro H
  iapply (keep m ρ K (step_sig m ρ K c (k := 5) (by decide) (by decide) (sig_dev_5 c) rfl)) $$ H; iintro H
  iapply (keep m ρ K (step_sig m ρ K c (k := 6) (by decide) (by decide) (sig_dev_6 c) rfl)) $$ H; iintro H
  iapply (keep m ρ K (step_sig m ρ K c (k := 7) (by decide) (by decide) (sig_dev_7 c) rfl)) $$ H; iintro H
  iapply (keep m ρ K (step_sig m ρ K c (k := 8) (by decide) (by decide) (sig_dev_8 c) rfl)) $$ H; iintro H
  iapply (keep m ρ K (step_sig m ρ K c (k := 9) (by decide) (by decide) (sig_dev_9 c) rfl)) $$ H; iintro H
  iapply (keep m ρ K (step_sig m ρ K c (k := 10) (by decide) (by decide) (sig_dev_10 c) rfl)) $$ H; iintro H
  iapply (keep m ρ K (step_sig m ρ K c (k := 11) (by decide) (by decide) (sig_dev_11 c) rfl)) $$ H; iintro H
  iapply (keep m ρ K (step_sig m ρ K c (k := 12) (by decide) (by decide) (sig_dev_12 c) rfl)) $$ H; iintro H
  iapply (keep m ρ K (step_sig m ρ K c (k := 13) (by decide) (by decide) (sig_dev_13 c) rfl)) $$ H; iintro H
  iapply (keep m ρ K (step_sig m ρ K c (k := 14) (by decide) (by decide) (sig_dev_14 c) rfl)) $$ H; iintro H
  iapply (keep m ρ K (step_sig m ρ K c (k := 15) (by decide) (by decide) (sig_dev_15 c) rfl)) $$ H; iintro H
  icases H with ⟨-, H⟩
  ihave HO := (sig_leave (F := F) c) $$ H
  -- the barrier
  iapply (step_bar m ρ K c rfl) $$ [HcB HatB HO]
  · isplitr; · iexact HR
    isplitr; · iexact Hlev
    isplitl [HcB]; · iexact HcB
    isplitl [HatB]; · iexact HatB
    iexact HO
  iintro ⟨Hpay, HzB, HO⟩
  -- the sends
  ihave Hx := (Entails.of_eq ((rows_eq m ρ c).trans (bigSep_around c _))) $$ Hx
  icases Hx with ⟨Hrow, Hrows⟩
  ihave H := (snd_enter m ρ c) $$ [HtS HtV Hrows Hpay HO]
  · isplitl [HtS]; · iexact HtS
    isplitl [HtV]; · iexact HtV
    isplitl [Hrows]; · iexact Hrows
    isplitl [Hpay]; · iexact Hpay
    iexact HO
  ihave H := (with_records m ρ K (sndSt m ρ c 1)) $$ [H]
  · isplitr; · iexact HR
    iexact H
  iapply (keep m ρ K (step_send m ρ K c (k := 1) (by decide) (by decide) (snd_dev_1 c) (off2_eq 0 c) (k0_off1_eq c) rfl rfl)) $$ H; iintro H
  iapply (keep m ρ K (step_send m ρ K c (k := 2) (by decide) (by decide) (snd_dev_2 c) (off2_eq 1 c) (k0_off1_eq c) rfl rfl)) $$ H; iintro H
  iapply (keep m ρ K (step_send m ρ K c (k := 3) (by decide) (by decide) (snd_dev_3 c) (off2_eq 2 c) (k0_off1_eq c) rfl rfl)) $$ H; iintro H
  iapply (keep m ρ K (step_send m ρ K c (k := 4) (by decide) (by decide) (snd_dev_4 c) (off2_eq 3 c) (k0_off1_eq c) rfl rfl)) $$ H; iintro H
  iapply (keep m ρ K (step_send m ρ K c (k := 5) (by decide) (by decide) (snd_dev_5 c) (off2_eq 4 c) (k0_off1_eq c) rfl rfl)) $$ H; iintro H
  iapply (keep m ρ K (step_send m ρ K c (k := 6) (by decide) (by decide) (snd_dev_6 c) (off2_eq 5 c) (k0_off1_eq c) rfl rfl)) $$ H; iintro H
  iapply (keep m ρ K (step_send m ρ K c (k := 7) (by decide) (by decide) (snd_dev_7 c) (off2_eq 6 c) (k0_off1_eq c) rfl rfl)) $$ H; iintro H
  iapply (keep m ρ K (step_send m ρ K c (k := 8) (by decide) (by decide) (snd_dev_8 c) (off2_eq 7 c) (k0_off1_eq c) rfl rfl)) $$ H; iintro H
  iapply (keep m ρ K (step_send m ρ K c (k := 9) (by decide) (by decide) (snd_dev_9 c) (off2_eq 8 c) (k0_off1_eq c) rfl rfl)) $$ H; iintro H
  iapply (keep m ρ K (step_send m ρ K c (k := 10) (by decide) (by decide) (snd_dev_10 c) (off2_eq 9 c) (k0_off1_eq c) rfl rfl)) $$ H; iintro H
  iapply (keep m ρ K (step_send m ρ K c (k := 11) (by decide) (by decide) (snd_dev_11 c) (off2_eq 10 c) (k0_off1_eq c) rfl rfl)) $$ H; iintro H
  iapply (keep m ρ K (step_send m ρ K c (k := 12) (by decide) (by decide) (snd_dev_12 c) (off2_eq 11 c) (k0_off1_eq c) rfl rfl)) $$ H; iintro H
  iapply (keep m ρ K (step_send m ρ K c (k := 13) (by decide) (by decide) (snd_dev_13 c) (off2_eq 12 c) (k0_off1_eq c) rfl rfl)) $$ H; iintro H
  iapply (keep m ρ K (step_send m ρ K c (k := 14) (by decide) (by decide) (snd_dev_14 c) (off2_eq 13 c) (k0_off1_eq c) rfl rfl)) $$ H; iintro H
  iapply (keep m ρ K (step_send m ρ K c (k := 15) (by decide) (by decide) (snd_dev_15 c) (off2_eq 14 c) (k0_off1_eq c) rfl rfl)) $$ H; iintro H
  icases H with ⟨-, H⟩
  ihave H := (snd_leave m ρ c) $$ H
  icases H with ⟨HcS, HO⟩
  -- the own block
  iapply (step_own m ρ c (k0_off3_eq c) (k0_off4_eq c) f0) $$ [Hrow Hown]
  · isplitl [Hrow]; · iexact Hrow
    iexact Hown
  iintro ⟨Hrow, Hown⟩
  -- the blocks coming in
  ihave HatV := (Entails.of_eq (bigSep_own_peers (fun j => (atPos ER (recvCell c j) 0 ∅ 0 : sProp 𝕄)))) $$ HatV
  icases HatV with ⟨HatV0, HatV⟩
  ihave HatS := (Entails.of_eq (bigSep_own_peers (fun j => (atPos ER (sendCell c j) 0 ∅ 0 : sProp 𝕄)))) $$ HatS
  icases HatS with ⟨HatS0, HatS⟩
  ihave H := (rcv_enter m ρ c) $$ [HcV HatV HO]
  · isplitl [HcV]; · iexact HcV
    isplitl [HatV]; · iexact HatV
    iexact HO
  ihave H := (with_records m ρ K (rcvSt m ρ c 1)) $$ [H]
  · isplitr; · iexact HR
    iexact H
  iapply (keep m ρ K (step_recv m ρ K c (k := 1) (by decide) (by decide) rfl)) $$ H; iintro H
  iapply (keep m ρ K (step_recv m ρ K c (k := 2) (by decide) (by decide) rfl)) $$ H; iintro H
  iapply (keep m ρ K (step_recv m ρ K c (k := 3) (by decide) (by decide) rfl)) $$ H; iintro H
  iapply (keep m ρ K (step_recv m ρ K c (k := 4) (by decide) (by decide) rfl)) $$ H; iintro H
  iapply (keep m ρ K (step_recv m ρ K c (k := 5) (by decide) (by decide) rfl)) $$ H; iintro H
  iapply (keep m ρ K (step_recv m ρ K c (k := 6) (by decide) (by decide) rfl)) $$ H; iintro H
  iapply (keep m ρ K (step_recv m ρ K c (k := 7) (by decide) (by decide) rfl)) $$ H; iintro H
  iapply (keep m ρ K (step_recv m ρ K c (k := 8) (by decide) (by decide) rfl)) $$ H; iintro H
  iapply (keep m ρ K (step_recv m ρ K c (k := 9) (by decide) (by decide) rfl)) $$ H; iintro H
  iapply (keep m ρ K (step_recv m ρ K c (k := 10) (by decide) (by decide) rfl)) $$ H; iintro H
  iapply (keep m ρ K (step_recv m ρ K c (k := 11) (by decide) (by decide) rfl)) $$ H; iintro H
  iapply (keep m ρ K (step_recv m ρ K c (k := 12) (by decide) (by decide) rfl)) $$ H; iintro H
  iapply (keep m ρ K (step_recv m ρ K c (k := 13) (by decide) (by decide) rfl)) $$ H; iintro H
  iapply (keep m ρ K (step_recv m ρ K c (k := 14) (by decide) (by decide) rfl)) $$ H; iintro H
  iapply (keep m ρ K (step_recv m ρ K c (k := 15) (by decide) (by decide) rfl)) $$ H; iintro H
  icases H with ⟨-, H⟩
  ihave H := (rcv_leave m ρ c) $$ [H Hown]
  · isplitl [H]; · iexact H
    iexact Hown
  icases H with ⟨Hscr, HzV, HO⟩
  -- the product's operands
  iapply (wp_load 𝒱₀ (c : Thread nD τ) none Set.univ (m := gM) (Finset.subset_univ _)) $$ Hscr; iintro Hscr
  rw [read_g]
  iapply (wp_load 𝒱₀ (c : Thread nD τ) none Set.univ (m := wM) (Finset.subset_univ _)) $$ Hw; iintro Hw
  rw [read_w]
  -- the sends leave
  ihave H := (out_enter m ρ c) $$ [HcS HatS HO]
  · isplitl [HcS]; · iexact HcS
    isplitl [HatS]; · iexact HatS
    iexact HO
  ihave H := (with_records m ρ K (outSt m ρ c 1)) $$ [H]
  · isplitr; · iexact HR
    iexact H
  iapply (keep m ρ K (step_out m ρ K c (k := 1) (by decide) (by decide) rfl)) $$ H; iintro H
  iapply (keep m ρ K (step_out m ρ K c (k := 2) (by decide) (by decide) rfl)) $$ H; iintro H
  iapply (keep m ρ K (step_out m ρ K c (k := 3) (by decide) (by decide) rfl)) $$ H; iintro H
  iapply (keep m ρ K (step_out m ρ K c (k := 4) (by decide) (by decide) rfl)) $$ H; iintro H
  iapply (keep m ρ K (step_out m ρ K c (k := 5) (by decide) (by decide) rfl)) $$ H; iintro H
  iapply (keep m ρ K (step_out m ρ K c (k := 6) (by decide) (by decide) rfl)) $$ H; iintro H
  iapply (keep m ρ K (step_out m ρ K c (k := 7) (by decide) (by decide) rfl)) $$ H; iintro H
  iapply (keep m ρ K (step_out m ρ K c (k := 8) (by decide) (by decide) rfl)) $$ H; iintro H
  iapply (keep m ρ K (step_out m ρ K c (k := 9) (by decide) (by decide) rfl)) $$ H; iintro H
  iapply (keep m ρ K (step_out m ρ K c (k := 10) (by decide) (by decide) rfl)) $$ H; iintro H
  iapply (keep m ρ K (step_out m ρ K c (k := 11) (by decide) (by decide) rfl)) $$ H; iintro H
  iapply (keep m ρ K (step_out m ρ K c (k := 12) (by decide) (by decide) rfl)) $$ H; iintro H
  iapply (keep m ρ K (step_out m ρ K c (k := 13) (by decide) (by decide) rfl)) $$ H; iintro H
  iapply (keep m ρ K (step_out m ρ K c (k := 14) (by decide) (by decide) rfl)) $$ H; iintro H
  iapply (keep m ρ K (step_out m ρ K c (k := 15) (by decide) (by decide) rfl)) $$ H; iintro H
  icases H with ⟨-, H⟩
  ihave H := (out_leave m ρ c) $$ [H Hrow]
  · isplitl [H]; · iexact H
    iexact Hrow
  icases H with ⟨Hx, HzS, HO⟩
  -- the scales, and the result
  iapply (wp_load_rect 𝒱₀ (c : Thread nD τ) none Set.univ (m := sxM) (r := r1) (Finset.subset_univ _)) $$ Hsx; iintro Hsx
  rw [read_sx]
  iapply (wp_load_rect 𝒱₀ (c : Thread nD τ) none Set.univ (m := swM) (r := r1) (Finset.subset_univ _)) $$ Hsw; iintro Hsw
  rw [read_sw]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  imod (close_unused m ρ K c) $$ [HatS0 HatV0] with ⟨HzS0, HzV0⟩
  · isplitr; · iexact HR
    isplitl [HatS0]; · iexact HatS0
    iexact HatV0
  rw [write_o, wp_ret]; imodintro
  iapply Hk
  unfold bodyPost Φ₁ owing Dat.owesAt Pipeline.owesWithin
  rw [show (dats m ρ 0 c).owed t0_0.succ = 0 from rfl]
  icases HO with ⟨%W', HO⟩
  isplitl [Hscr HzB HzS HzS0 HzV HzV0]
  · isplitl [Hscr]; · iexact Hscr
    isplitl [HzB]; · iexact HzB
    rw [bigSep_own_peers, bigSep_own_peers]
    isplitl [HzS HzS0]
    · isplitl [HzS0]; · iexact HzS0
      iexact HzS
    isplitl [HzV0]; · iexact HzV0
    iexact HzV
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 65536 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 65536 in
/-- The body as the pipeline asks for it, on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _) cc0_scratch1 cc0_scratch2)
    (fun _ => bodyPost m ρ c)
  unfold bodyPre' Φ₀ start
  iintro ⟨⟨⟨⟨%K, Hg⟩, H1, H2, H3⟩, Hscr⟩, Ho, Hwin⟩
  iapply (sound_body m ρ K c fun _ => bodyPost m ρ c)
  unfold bodyPre
  isplitr []
  · isplitl [Hg H1 H2 H3 Hscr]
    · isplitl [Hg]; · iexact Hg
      isplitl [H1]; · iexact H1
      isplitl [H2]; · iexact H2
      isplitl [H3]; · iexact H3
      iexact Hscr
    isplitl [Ho]; · iexact Ho
    iexact Hwin
  · iintro H; iexact H

end Body

end Cert.KernelIdeal.Exch

end
-- ==== Proof.KernelIdeal.Launch.lean ====
/-
# The launch and the run

The launch makes every cell its round state and its duty tokens; each token is then dealt to the device that pays it. With
that, and the credit for what all devices owe a device's cells, every device's body runs; the run ends with each device's
block of the result, its arguments as they were, and every semaphore at zero.
-/
module

public import proofs.«01_k».proof.Proof.KernelIdeal.Body
public import Idealize.ShloMosaic.Lib.Pipeline.CollectiveSegs

@[expose] public section

noncomputable section

namespace Cert.KernelIdeal.Exch

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem csem_injective : Function.Injective csem := by
  have h : ∀ a b : CellIx, csem a = csem b → a = b := by decide +kernel
  exact fun a b => h a b

theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

def exCells : Finset (GSem nD τ sig) := Finset.univ.map ⟨kcell, kcell_injective⟩

/-- A token as minted: at a device's barrier cell one per offset (`none`), at each of its transfer cells one. -/
abbrev TokIx : Type := Option Bool × Fin 16
abbrev tokIn : TokIx → CellIx × Fin 16 := fun x => match x.1 with
  | none => (none, x.2)
  | some b => (some (b, x.2), 0)
theorem tokIn_injective : Function.Injective tokIn := by
  have h : ∀ a b : TokIx, tokIn a = tokIn b → a = b := by decide +kernel
  exact fun a b => h a b

abbrev tokOf (ct : Dev nD × TokIx) : GSem nD τ sig × ℕ × Fin 16 := (kcell (ct.1, (tokIn ct.2).1), 0, (tokIn ct.2).2)
theorem tokOf_injective : Function.Injective (tokOf : Dev nD × TokIx → GSem nD τ sig × ℕ × Fin 16) := by
  rintro ⟨c, t⟩ ⟨c', t'⟩ h
  have h1 := kcell_injective (congrArg Prod.fst h)
  have h2 : (tokIn t).2 = (tokIn t').2 := congrArg (fun x : GSem nD τ sig × ℕ × Fin 16 => x.2.2) h
  have h3 : c = c' := congrArg Prod.fst h1
  have h4 : t = t' := tokIn_injective (Prod.ext (congrArg Prod.snd h1) h2)
  rw [h3, h4]

def exToks : Finset (GSem nD τ sig × ℕ × Fin 16) := Finset.univ.map ⟨tokOf, tokOf_injective⟩

def u₀ : UU :=
  (initOf (Pipeline.cells cfgs cellOf_inj) (Pipeline.launchToks cfgs cellOf_inj), initOf exCells exToks)

omit [FloatOps F] in
theorem bigSep_bool {I : Type} [Fintype I] (Φ : Bool × I → sProp 𝕄) :
    bigSep Finset.univ Φ = iprop(bigSep Finset.univ (fun j => Φ (false, j)) ∗ bigSep Finset.univ (fun j => Φ (true, j))) := by
  rw [bigSep_univ_prod]; exact bigSep_univ_eq_bigSepL [false, true] (by decide) (by decide) _

omit [FloatOps F] in
/-- Over a device's cells: the barrier's, the sends', the receives'. -/
theorem bigSep_cells (Φ : CellIx → sProp 𝕄) :
    bigSep Finset.univ Φ = iprop(Φ none ∗ bigSep Finset.univ (fun j => Φ (some (false, j))) ∗ bigSep Finset.univ (fun j => Φ (some (true, j)))) := by
  rw [show (Finset.univ : Finset CellIx) = insert none (Finset.univ.map Function.Embedding.some) from rfl,
    bigSep_insert (by simp), bigSep_map, bigSep_bool]
  rfl

omit [FloatOps F] in
theorem bigSep_toks (Φ : TokIx → sProp 𝕄) :
    bigSep Finset.univ Φ = iprop(bigSep Finset.univ (fun j => Φ (none, j)) ∗ bigSep Finset.univ (fun j => Φ (some false, j)) ∗ bigSep Finset.univ (fun j => Φ (some true, j))) := by
  rw [bigSep_univ_prod]; exact bigSep_univ_eq_bigSepL [none, some false, some true] (by decide) (by decide) _

/-- The duty tokens of device `c`'s own cells. -/
def toks (c : Dev nD) : sProp 𝕄 :=
  iprop(bigSep Finset.univ (fun j : Fin 16 => dutyTok ER (barCell c) 0 j) ∗ bigSep Finset.univ (fun j => dutyTok ER (sendCell c j) 0 0)
    ∗ bigSep Finset.univ (fun j => dutyTok ER (recvCell c j) 0 0))

/-- What the launch deals device `c`. -/
def G (c : Dev nD) : sProp 𝕄 :=
  iprop((bigSep Finset.univ fun k : CellIx => roundState ER (exRd m ρ) (kcell (c, k)) 0)
    ∗ (bigSep Finset.univ fun k : CellIx => iprop(atPos ER (kcell (c, k)) 0 ∅ 0 ∗ reached ER (kcell (c, k)) 0)) ∗ toks c)

/-- What becomes of it, over all devices. -/
def G' (c : Dev nD) : sProp 𝕄 := iprop(∃ K, ghost m ρ K c)

omit [FloatOps F] in
theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CellIx => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_toks]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(bigSep Finset.univ (fun j => semVal (sendCell c j) 0) ∗ bigSep Finset.univ (fun j => semVal (recvCell c j) 0)) := by
  unfold Pipeline.ownSems0; rw [bigSep_bool]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

omit [FloatOps F] in
/-- A device's cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays; -/
def payToks (c : Dev nD) : sProp 𝕄 :=
  iprop(bigSep (pend 1) (fun j => dutyTok ER (barCell (ahead c j)) 0 (opp j)) ∗ bigSep (pend 1) (fun j => dutyTok ER (sendCell c j) 0 0)
    ∗ bigSep (pend 1) (fun j => dutyTok ER (recvCell (ahead c j) j) 0 0))
/-- with its positions. -/
def linear (c : Dev nD) : sProp 𝕄 := iprop((bigSep Finset.univ fun k : CellIx => atPos ER (kcell (c, k)) 0 ∅ 0) ∗ payToks c)

omit [FloatOps F] in
theorem ghost_intro (K : Dev nD × CellIx → ℕ) (c : Dev nD) : iprop(records m ρ K ∗ linear c) ⊢ G' m ρ c := by
  unfold linear payToks G' ghost
  rw [bigSep_cells]
  iintro ⟨#HR, ⟨HaB, HaS, HaV⟩, HtB, HtS, HtV⟩
  iexists K
  isplitr; · iexact HR
  isplitl [HaB]; · iexact HaB
  isplitl [HaS]; · iexact HaS
  isplitl [HaV]; · iexact HaV
  isplitl [HtB]; · iexact HtB
  isplitl [HtS]; · iexact HtS
  iexact HtV

omit [FloatOps F] in
/-- Tokens by pairs (device, offset), carried along a rearrangement of the pairs, the peers' kept. -/
theorem deal (e : Fin 16 × Fin 16 ≃ Fin 16 × Fin 16) (Φ : Fin 16 × Fin 16 → sProp 𝕄) :
    (bigSep Finset.univ fun c : Fin 16 => bigSep Finset.univ fun j : Fin 16 => Φ (c, j))
      ⊢ bigSep Finset.univ fun c : Fin 16 => bigSep (pend 1) fun j => Φ (e (c, j)) := by
  rw [← bigSep_univ_prod, bigSep_univ_equiv e, bigSep_univ_prod]
  exact bigSep_mono fun c _ => bigSep_subset (Finset.subset_univ _)

omit [FloatOps F] in
/-- The tokens dealt: a barrier's to the peers, a receive's to its sender. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  isplitl [H1]; · iapply (deal turnEquiv (fun p => (dutyTok ER (barCell p.1) 0 p.2 : sProp 𝕄))); iexact H1
  isplitl [H2]; · iapply (deal (Equiv.refl _) (fun p => (dutyTok ER (sendCell p.1 p.2) 0 0 : sProp 𝕄))); iexact H2
  iapply (deal shiftEquiv (fun p => (dutyTok ER (recvCell p.1 p.2) 0 0 : sProp 𝕄))); iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (exRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; rw [bigSep_sep']; isplitl; · iexact HI
    iexact HR
  · unfold linear
    rw [bigSep_sep']
    isplitl [Hat]; · iexact Hat
    iexact Htk

omit [FloatOps F] in
/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

abbrev O₀ (c : Dev nD) : CellTallies nD τ sig Unit := Oat c 1

theorem bar_eq_iff {a b : Dev nD} : Iff (barCell a = barCell b) (a = b) :=
  ⟨fun h => Fin.ext (congrArg (fun g : GSem nD τ sig => g.1.1.val) h), fun h => h ▸ rfl⟩
theorem recvS_inj {i j : Fin 16} (h : recvS i = recvS j) : i = j := by revert i j; decide +kernel
theorem recv_eq_iff {a b : Dev nD} {i j : Fin 16} : Iff (recvCell a i = recvCell b j) (a = b ∧ i = j) :=
  ⟨fun h => ⟨Fin.ext (congrArg (fun g : GSem nD τ sig => g.1.1.val) h), recvS_inj (SemLoc.dma.inj (congrArg Prod.snd h))⟩, fun h => by rw [h.1, h.2]⟩
theorem bar_ne_recv {a b : Dev nD} {j : Fin 16} : barCell a ≠ recvCell b j := fun h => dma_ne_bar (recvS j) (congrArg Prod.snd h).symm

/-- What device `d` owes device `c`'s barrier cell: a unit per offset that takes `d` to `c`. -/
theorem owed_bar (d c : Dev nD) : O₀ d (barCell c) () = ∑ j ∈ pend 1, if d = ahead c (opp j) then 1 else 0 := by
  unfold O₀ Oat Osend Osig
  rw [Pi.add_apply, Finsupp.add_apply, Finset.sum_apply, Finsupp.finset_sum_apply, Finset.sum_apply, Finsupp.finset_sum_apply,
    Finset.sum_eq_zero fun j _ => by rw [tallyAt_ne_cell bar_ne_recv, Finsupp.zero_apply], Nat.zero_add]
  refine Finset.sum_congr rfl fun j _ => ?_
  rw [tallyAt_apply]
  by_cases h : d = ahead c (opp j)
  · rw [if_pos h, if_pos ⟨bar_eq_iff.mpr (ahead_eq_iff.mpr h).symm, rfl⟩]
  · rw [if_neg h, if_neg fun h' => h (ahead_eq_iff.mp (bar_eq_iff.mp h'.1).symm)]

/-- What it owes device `c`'s receive cell `j`: a block's count if `j` takes it to `c`. -/
theorem owed_recv (d c : Dev nD) {j : Fin 16} (hj : j ∈ pend 1) : O₀ d (recvCell c j) () = if d = ahead c (opp j) then N else 0 := by
  unfold O₀ Oat Osend Osig
  rw [Pi.add_apply, Finsupp.add_apply, Finset.sum_apply, Finsupp.finset_sum_apply, Finset.sum_apply, Finsupp.finset_sum_apply,
    Finset.sum_eq_zero (s := pend 1) (f := fun i => (tallyAt (barCell (ahead d i)) () 1 : CellTallies nD τ sig Unit) (recvCell c j) ())
      fun i _ => by rw [tallyAt_ne_cell bar_ne_recv.symm, Finsupp.zero_apply], Nat.add_zero,
    Finset.sum_eq_single_of_mem j hj fun i _ hi => by rw [tallyAt_apply, if_neg fun h => hi (recv_eq_iff.mp h.1).2.symm], tallyAt_apply]
  by_cases h : d = ahead c (opp j)
  · rw [if_pos h, if_pos ⟨recv_eq_iff.mpr ⟨(ahead_eq_iff.mpr h).symm, rfl⟩, rfl⟩]
  · rw [if_neg h, if_neg fun h' => h (ahead_eq_iff.mp (recv_eq_iff.mp h'.1).1.symm)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (ahead c (opp j)) fun _ => 1).trans (if_pos (Finset.mem_univ _)),
    Finset.sum_const, card_pend_1, smul_eq_mul]

theorem launch_recv (c : Dev nD) {j : Fin 16} (hj : j ∈ pend 1) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c hj,
    Finset.sum_ite_eq' Finset.univ (ahead c (opp j)) fun _ => N, if_pos (Finset.mem_univ _)]

/-- A receive's semaphore. -/
def recvLoc : Fin 16 ↪ SemLoc sig := ⟨fun j => .dma (recvS j), fun _ _ h => recvS_inj (SemLoc.dma.inj h)⟩

omit [FloatOps F] in
/-- The credit a device launches with covers its barrier's fifteen units and its fifteen blocks. -/
theorem creds (c : Dev nD) :
    (Pipeline.launchCred O₀ c : sProp 𝕄) ⊢ iprop(cred (tallyAt (barCell c) () 15) ∗ bigSep (pend 1) (fun j => cred (tallyAt (recvCell c j) () N))) := by
  unfold Pipeline.launchCred
  rw [bigSep_univ_at _ (SemLoc.reg barS), launch_bar]
  refine sep_mono_right ((bigSep_subset (t := (pend 1).map recvLoc) fun sm hsm => ?_).trans ?_)
  · obtain ⟨j, -, rfl⟩ := Finset.mem_map.mp hsm
    exact Finset.mem_erase.mpr ⟨dma_ne_bar (recvS j), Finset.mem_univ _⟩
  · rw [bigSep_map]
    exact bigSep_mono fun j hj => by rw [← launch_recv c hj]; exact Entails.refl _

/-! ### The run's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (allx m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every execution of the sixteen devices ends, each device's arrays at the
    computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exch

end
-- ==== Proof.KernelIdeal.Run.lean ====
/-
# The run in terms of the arguments

The staged blocks are the argument arrays, and the result array ends holding what the body left: so device `c`'s result is
`outOf` of the arguments as launched, and its arguments end as they were.
-/
module

public import proofs.«01_k».proof.Proof.KernelIdeal.Launch
public import Idealize.ShloMosaic.Lib.Pipeline.Value

@[expose] public section

noncomputable section

namespace Cert.KernelIdeal.Exch

open Cert.KernelIdeal Cert.KernelIdeal.Gen Cert.Mesh

open Idealize.ShloMosaic
open Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-! ## What a device stages -/

omit [FloatOps F] in
theorem xstg_eq (c : Dev nD) : xstg m ρ c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
omit [FloatOps F] in
theorem wstg_eq (c : Dev nD) : wstg m ρ c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _
omit [FloatOps F] in
theorem sxstg_eq (c : Dev nD) : sxstg m ρ c = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _
omit [FloatOps F] in
theorem swstg_eq (c : Dev nD) : swstg m ρ c = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _

/-- Device `c`'s rows of `x`, gathered: column `k` from the device that has it. -/
def rowsOf (c : Dev nD) : Vec F S256x4096 .i8 := fun i => m (((srcDev i : Dev nD) : Thread nD τ).loc main_arg0) (srcIdx c i)

omit [FloatOps F] in
theorem allx_rows (c : Dev nD) : allx m ρ c = rowsOf m c := funext fun i => by
  show xstg m ρ (srcDev i) (srcIdx c i) = _; rw [xstg_eq]; rfl

/-- What device `c` computes of the arguments. -/
def outOf (c : Dev nD) : Vec F S256x2048 .f32 :=
  k0_pay1 (k0_pay4 (m ((c : Thread nD τ).loc main_arg2) one0) (m ((c : Thread nD τ).loc main_arg3) one0))
    (k0_pay5 (F := F) (k0_pay3 (F := F) (rowsOf m c) (m ((c : Thread nD τ).loc main_arg1))))

theorem outAt_eq (c : Dev nD) : outAt m ρ c = outOf m c := by
  unfold outAt outOf; rw [allx_rows, wstg_eq, sxstg_eq, swstg_eq]

/-! ## What the arrays end holding -/

/-- The result array ends holding what the body left. -/
theorem final_out (c : Dev nD) : finalA m ρ c (4 : Fin 5) = outOf m c := by
  have ho : ((cfg0.win (4 : Fin 5)).blk t0_0).view.read (Elt F) ((dats m ρ 0 c).arrAt (4 : Fin 5) cfg0.N) = (dats m ρ 0 c).flushed (4 : Fin 5) t0_0 := by
    rw [show cfg0.N = (t0_0 : Fin cfg0.N).val + 1 from rfl, (dats m ρ 0 c).arrAt_succ (4 : Fin 5) t0_0,
      show (cfg0.win (4 : Fin 5)).flush t0_0 = true from by decide, if_pos rfl]
    exact View.read_write_univ _ _
  have hz : (fun a => (win0_4.index t0_0) a * main_v1.ty.shape.size a) = fun _ => 0 := funext fun a => by fin_cases a <;> decide
  have hr := fun f => Memref.read_access_unit_zero (Elt F) main_v1 hz (fun a => by fin_cases a <;> decide) f
  rw [hr] at ho
  refine ho.trans ?_
  show (cfg0.win (4 : Fin 5)).cut _ (outAt m ρ c) = _
  rw [outAt_eq]
  rfl

/-- Every execution ends with device `c`'s result `outOf` of the arguments, its arguments unchanged, and every semaphore
    at zero. -/
theorem run : θ_run (defs (F := F)) (onTc (τ := τ) (main (F := F))) ⟨m, fun _ => 0, ρ⟩ (fun r => (∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine (θ_run defs _ _).mono (fun r h => ⟨fun c => ?_, h.2⟩) (run_main m ρ)
  exact ⟨(h.1 c (4 : Fin 5)).trans (final_out m ρ c),
    (h.1 c (0 : Fin 5)).trans ((dats m ρ 0 c).arrAt_in (0 : Fin 5) rfl _),
    (h.1 c (1 : Fin 5)).trans ((dats m ρ 0 c).arrAt_in (1 : Fin 5) rfl _),
    (h.1 c (2 : Fin 5)).trans ((dats m ρ 0 c).arrAt_in (2 : Fin 5) rfl _),
    (h.1 c (3 : Fin 5)).trans ((dats m ρ 0 c).arrAt_in (3 : Fin 5) rfl _)⟩

/-- The frame: arguments unchanged, semaphores at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => (h.1 c).2, h.2⟩) (run m ρ)

end Cert.KernelIdeal.Exch

end
-- ==== Proof.Value.Dot.lean ====
/-
# Sums over a plain contraction, of integers and of their real values

`[M,K] × [K,N]` contracts one coordinate, so a sum over its contraction index is a sum over `Fin K`. Exact real arithmetic
of integer values is integer arithmetic: the products of converted bytes sum to the integer sum, and the products of their
absolute values sum to the total of the products' magnitudes.
-/
module

public import Idealize.ShloMosaic.Lib.MatmulPlain
public import Idealize.ShloMosaic.Lib.IntMxu
public import Idealize.ShloMosaic.Lib.ValueIdx
public import Idealize.ShloMosaic.Lib.IdealHost

@[expose] public section

noncomputable section

namespace Cert.Value

open Idealize.ShloMosaic

/-- A sum over the contraction index of `[M,K] × [K,N]` at result element `(r, c)`, of anything read at the two operands'
    indices, is the sum over the contracted coordinate. -/
theorem sum_contr {A : Type} [AddCommMonoid A] (M K N : ℕ) (g : (⟨2, ![M, K]⟩ : Shape).Idx → (⟨2, ![K, N]⟩ : Shape).Idx → A)
    (j : (⟨2, ![M, N]⟩ : Shape).Idx) :
    (∑ k : (DotDims.plain M K N).contr.Idx, g ((DotDims.plain M K N).lhsIdx j k) ((DotDims.plain M K N).rhsIdx j k))
      = ∑ k : Fin K, g (Shape.pair (d := ![M, K]) (j 0) k) (Shape.pair (d := ![K, N]) k (j 1)) := by
  refine Fintype.sum_equiv (DotDims.plainContr M K N) _ _ fun k => ?_
  have hk : ∀ a : Fin (DotDims.plain M K N).contr.rank, (k a).val = ((DotDims.plainContr M K N) k).val := fun a => by
    obtain ⟨q, rfl⟩ := (DotDims.plainContr M K N).symm.surjective k
    rw [Equiv.apply_symm_apply]
    have ha : a = ⟨0, by rw [DotDims.plain_contr_rank]; exact Nat.one_pos⟩ := Fin.ext (by
      have : a.val < 1 := a.isLt.trans_eq (DotDims.plain_contr_rank M K N)
      show a.val = 0; omega)
    rw [ha]
    exact ValueIdx.contrEquiv1_symm_val _ K (DotDims.plain_contr_rank M K N) (DotDims.plain_contr_size M K N) q
  congr 1
  · funext a; apply Fin.ext
    rcases a with ⟨_ | _ | n, ha⟩
    · rfl
    · exact hk _
    · exact absurd ha (by show ¬ n + 2 < 2; omega)
  · funext a; apply Fin.ext
    rcases a with ⟨_ | _ | n, ha⟩
    · exact hk _
    · rfl
    · exact absurd ha (by show ¬ n + 2 < 2; omega)

/-! ## Integers in the extended reals -/

/-- The extended real an integer is. -/
def re (z : ℤ) : EReal := ((z : ℝ) : EReal)

theorem re_add (a b : ℤ) : re (a + b) = re a + re b := by unfold re; rw [Int.cast_add, EReal.coe_add]
theorem re_mul (a b : ℤ) : re (a * b) = re a * re b := by unfold re; rw [Int.cast_mul, EReal.coe_mul]
theorem re_lt (a b : ℤ) : re a < re b ↔ a < b := by unfold re; rw [EReal.coe_lt_coe_iff, Int.cast_lt]
/-- A sum of integers, in the extended reals term by term. -/
theorem re_sum {ι : Type} (s : Finset ι) (f : ι → ℤ) : re (∑ k ∈ s, f k) = ∑ k ∈ s, re (f k) := by
  classical
  induction s using Finset.induction_on with
  | empty => rw [Finset.sum_empty, Finset.sum_empty]; unfold re; rw [Int.cast_zero, EReal.coe_zero]
  | insert a s ha ih => rw [Finset.sum_insert ha, Finset.sum_insert ha, re_add, ih]
/-- The larger of an integer and its negation is its absolute value. -/
theorem re_abs (z : ℤ) : max (re z) (-re z) = re z.natAbs := by
  have hn : -re z = re (-z) := by unfold re; rw [Int.cast_neg, EReal.coe_neg]
  have hle : ∀ a b : ℤ, a ≤ b → re a ≤ re b := fun a b h => by
    unfold re; rw [EReal.coe_le_coe_iff]; exact Int.cast_le.mpr h
  rw [hn]
  rcases le_total 0 z with h | h
  · rw [max_eq_left (hle _ _ (by omega)), Int.natAbs_of_nonneg h]
  · rw [max_eq_right (hle _ _ (by omega)), show ((z.natAbs : ℕ) : ℤ) = -z by omega]

/-- The f32 pattern `0x4B800000` is 2²⁴. -/
theorem ofBits_pow24 : Ideal.ofBits .f32 0x4B800000#32 = re 16777216 := by
  unfold re
  simp [Ideal.ofBits, Ideal.ieee, -EReal.coe_mul]; norm_num

/-! ## The product of two arrays of bytes -/

variable {M K N : ℕ}

/-- Element `j` of the integer product of two arrays of bytes. -/
def prod (x : IVec ⟨2, ![M, K]⟩ 8) (w : IVec ⟨2, ![K, N]⟩ 8) (j : (⟨2, ![M, N]⟩ : Shape).Idx) : ℤ :=
  ∑ k : Fin K, (x (Shape.pair (d := ![M, K]) (j 0) k)).toInt * (w (Shape.pair (d := ![K, N]) k (j 1))).toInt
/-- The total of its products' magnitudes. -/
def mag (x : IVec ⟨2, ![M, K]⟩ 8) (w : IVec ⟨2, ![K, N]⟩ 8) (j : (⟨2, ![M, N]⟩ : Shape).Idx) : ℕ :=
  ∑ k : Fin K, ((x (Shape.pair (d := ![M, K]) (j 0) k)).toInt * (w (Shape.pair (d := ![K, N]) k (j 1))).toInt).natAbs

theorem dotI8_eq (x : IVec ⟨2, ![M, K]⟩ 8) (w : IVec ⟨2, ![K, N]⟩ 8) (j : (⟨2, ![M, N]⟩ : Shape).Idx) :
    dotI8 (DotDims.plain M K N) x w j = prod x w j := sum_contr M K N (fun a b => (x a).toInt * (w b).toInt) j
theorem absDotI8_eq (x : IVec ⟨2, ![M, K]⟩ 8) (w : IVec ⟨2, ![K, N]⟩ 8) (j : (⟨2, ![M, N]⟩ : Shape).Idx) :
    absDotI8 (DotDims.plain M K N) x w j = mag x w j := sum_contr M K N (fun a b => ((x a).toInt * (w b).toInt).natAbs) j

/-- The exact product of the bytes as reals is the integer product. -/
theorem dotGeneral_re (x : IVec ⟨2, ![M, K]⟩ 8) (w : IVec ⟨2, ![K, N]⟩ 8) (a : FVec Ideal ⟨2, ![M, K]⟩ .f32)
    (b : FVec Ideal ⟨2, ![K, N]⟩ .f32) (ha : ∀ i, a i = re (x i).toInt) (hb : ∀ i, b i = re (w i).toInt)
    (j : (⟨2, ![M, N]⟩ : Shape).Idx) : Host.dotGeneral (DotDims.plain M K N) none a b j = re (prod x w j) := by
  simp only [Host.dotGeneral]
  rw [Ideal.dotGeneral_apply, sum_contr M K N (fun p q => a p * b q) j]
  unfold prod
  rw [re_sum]
  exact Finset.sum_congr rfl fun k _ => by rw [ha, hb, re_mul]
/-- The exact product of the bytes' absolute values is the total of the products' magnitudes. -/
theorem dotGeneral_abs (x : IVec ⟨2, ![M, K]⟩ 8) (w : IVec ⟨2, ![K, N]⟩ 8) (a : FVec Ideal ⟨2, ![M, K]⟩ .f32)
    (b : FVec Ideal ⟨2, ![K, N]⟩ .f32) (ha : ∀ i, a i = re (x i).toInt.natAbs) (hb : ∀ i, b i = re (w i).toInt.natAbs)
    (j : (⟨2, ![M, N]⟩ : Shape).Idx) : Host.dotGeneral (DotDims.plain M K N) none a b j = re (mag x w j) := by
  simp only [Host.dotGeneral]
  rw [Ideal.dotGeneral_apply, sum_contr M K N (fun p q => a p * b q) j]
  unfold mag
  rw [Nat.cast_sum, re_sum]
  exact Finset.sum_congr rfl fun k _ => by rw [ha, hb, ← re_mul, Int.natAbs_mul, Nat.cast_mul]

/-- A byte widened to 32 bits is the same integer. -/
theorem toInt_extsi (b : BitVec 8) : (b.signExtend 32).toInt = b.toInt := BitVec.toInt_signExtend_of_le (by decide)

end Cert.Value

end
-- ==== Proof.Value.Block.lean ====
/-
# What one device computes

Where its products' magnitudes total less than 2²⁴, an element of device `c`'s result is the integer product of its
gathered rows of `x` by the weights, times the product of the two scales, cut off below zero.
-/
module

public import proofs.«01_k».proof.Proof.KernelIdeal.Run
public import proofs.«01_k».proof.Proof.Value.Dot

@[expose] public section

noncomputable section

namespace Cert.Value

open Cert.KernelIdeal Cert.KernelIdeal.Gen Cert.KernelIdeal.Exch
open Idealize.ShloMosaic Idealize.ShloMosaic.TcCoe

/-- The scaling and cutting off of an integer. -/
def relu (z : ℤ) (sx sw : EReal) : EReal := max (re z * (sx * sw)) 0

/-- The integer product a device computes is exact where its products' magnitudes total less than 2²⁴. -/
theorem product_exact (x : IVec S256x4096 8) (w : IVec S4096x2048 8) (j : S256x2048.Idx)
    (h : mag (M := 256) (K := 4096) (N := 2048) x w j < 16777216) :
    (k0_pay3 (F := Ideal) x w j).toInt = prod (M := 256) (K := 4096) (N := 2048) x w j := by
  have hw : shapeCast S4096x2048 w shapeCasts_S4096x2048_S4096x2048 = w := shapeCast_self _ _
  show (matmulI8 IntMxuNumerics.v7x (DotDims.plain 256 4096 2048) x (shapeCast S4096x2048 w shapeCasts_S4096x2048_S4096x2048)
    (constantI S256x2048 32 0#32) j).toInt = _
  rw [hw, matmulI8_toInt IntMxuNumerics.v7x (DotDims.plain 256 4096 2048) x w _ j rfl (by
    rw [absDotI8_eq]; show _ ≤ 2 ^ 24 - 1; omega), dotI8_eq]

variable (m : (ℓ : Loc nD τ sig) → Buf (Elt Ideal) ℓ)

/-- Element `j` of device `c`'s result. -/
theorem outOf_apply (c : Dev nD) (j : S256x2048.Idx)
    (h : mag (M := 256) (K := 4096) (N := 2048) (rowsOf m c) (m ((c : Thread nD τ).loc main_arg1)) j < 16777216) :
    outOf m c j = relu (prod (M := 256) (K := 4096) (N := 2048) (rowsOf m c) (m ((c : Thread nD τ).loc main_arg1)) j)
      (m ((c : Thread nD τ).loc main_arg2) one0) (m ((c : Thread nD τ).loc main_arg3) one0) := by
  unfold relu
  rw [← product_exact _ _ j h]
  show max _ (Ideal.ofBits .f32 0x00000000#32) = _
  rw [Ideal.ofBits_zero_f32]
  rfl

end Cert.Value

end
-- ==== Proof.Value.Reference.lean ====
/-
# What the reference computes, and the elements claimed

An element of the reference's result is the integer product times the product of the two scales, cut off below zero; the
mask is set exactly where the products' magnitudes total less than 2²⁴.
-/
module

public import proofs.«01_k».proof.Proof.Gen.ReferenceIdeal.Run
public import proofs.«01_k».proof.Proof.Gen.On_exact_below
public import proofs.«01_k».proof.Proof.Value.Block

@[expose] public section

noncomputable section

namespace Cert.Value

open Idealize.ShloMosaic Idealize.ShloMosaic.TcCoe

/-- A one-element array has one index. -/
theorem one_idx (p q : (⟨1, ![1]⟩ : Shape).Idx) : p = q := funext fun a => Fin.ext (by
  have hp : (p a).val < 1 := by have := (p a).isLt; fin_cases a; exact this
  have hq : (q a).val < 1 := by have := (q a).isLt; fin_cases a; exact this
  omega)

section Ref
open Cert.ReferenceIdeal Cert.ReferenceIdeal.Gen

/-- The reference's result, of its arguments. -/
def refOut (x : IVec S4096x4096 8) (w : IVec S4096x2048 8) (sx sw : FVec Ideal S1 .f32) : FVec Ideal S4096x2048 .f32 :=
  maximumf (mulf (Host.dotGeneral dot_S4096x4096_S4096x2048_S4096x2048_1_0_0_1_n_n none
        (sitofp .f32 (extsi 32 x natLt_8_32)) (sitofp .f32 (extsi 32 w natLt_8_32)))
      (broadcastInDim S4096x2048 ![0, 1] bcast_S1x1_S4096x2048_0_1 (broadcastInDim S1x1 ![1] bcast_S1_S1x1_1 (mulf sx sw))))
    (broadcastInDim S4096x2048 ![] bcast_S_S4096x2048 (constant S_ .f32 0x00000000#32))

/-- Element `j` of the reference's result. -/
theorem refOut_apply (x : IVec S4096x4096 8) (w : IVec S4096x2048 8) (sx sw : FVec Ideal S1 .f32) (j : S4096x2048.Idx)
    (o : S1.Idx) :
    refOut x w sx sw j = relu (prod (M := 4096) (K := 4096) (N := 2048) x w j) (sx o) (sw o) := by
  have hd : Host.dotGeneral dot_S4096x4096_S4096x2048_S4096x2048_1_0_0_1_n_n none
      (sitofp .f32 (extsi 32 x natLt_8_32) : FVec Ideal S4096x4096 .f32) (sitofp .f32 (extsi 32 w natLt_8_32)) j
      = re (prod (M := 4096) (K := 4096) (N := 2048) x w j) :=
    dotGeneral_re (M := 4096) (K := 4096) (N := 2048) x w _ _
      (fun i => congrArg re (toInt_extsi (x i))) (fun i => congrArg re (toInt_extsi (w i))) j
  have hs : broadcastInDim S4096x2048 ![0, 1] bcast_S1x1_S4096x2048_0_1 (broadcastInDim S1x1 ![1] bcast_S1_S1x1_1 (mulf sx sw)) j
      = sx o * sw o := by
    obtain ⟨p, hp⟩ : ∃ p : S1.Idx, broadcastInDim S4096x2048 ![0, 1] bcast_S1x1_S4096x2048_0_1
        (broadcastInDim S1x1 ![1] bcast_S1_S1x1_1 (mulf sx sw)) j = mulf sx sw p := ⟨_, rfl⟩
    rw [hp, one_idx p o]; rfl
  unfold refOut relu
  rw [ValueIdx.maximumf_apply, ValueIdx.mulf_apply, hd, hs]
  refine congrArg (max _) ?_
  show Ideal.ofBits .f32 0x00000000#32 = 0
  exact Ideal.ofBits_zero_f32

end Ref

section Mask
open Cert.On_exact_below Cert.On_exact_below.Gen

/-- Where the mask is set the products' magnitudes total less than 2²⁴. -/
theorem mask_mag (x : IVec S4096x4096 8) (w : IVec S4096x2048 8) (sx sw : FVec Ideal S1 .f32) (j : S4096x2048.Idx)
    (h : Cert.On_exact_below.fn (F := Ideal) x w sx sw j = 1#1) : mag (M := 4096) (K := 4096) (N := 2048) x w j < 16777216 := by
  have ha : ∀ b : BitVec 8, FloatOps.hostAbsf (FloatOps.sitofp .f32 (b.signExtend 32) : Ideal .f32) = re b.toInt.natAbs := fun b => by
    rw [← toInt_extsi b]; exact re_abs _
  have hd : Host.dotGeneral dot_S4096x4096_S4096x2048_S4096x2048_1_0_0_1_n_n none
      (Host.absf (sitofp .f32 (extsi 32 x natLt_8_32) : FVec Ideal S4096x4096 .f32))
      (Host.absf (sitofp .f32 (extsi 32 w natLt_8_32))) j = re (mag (M := 4096) (K := 4096) (N := 2048) x w j) :=
    dotGeneral_abs (M := 4096) (K := 4096) (N := 2048) x w _ _
      (fun i => ha (x i)) (fun i => ha (w i)) j
  have hb : broadcastInDim S4096x2048 ![] bcast_S_S4096x2048 (constant (F := Ideal) S_ .f32 0x4B800000#32) j = re 16777216 := by
    rw [← ofBits_pow24]; rfl
  have hc : Ideal.cmp .olt (re (mag (M := 4096) (K := 4096) (N := 2048) x w j)) (re 16777216) = 1#1 := by
    unfold Cert.On_exact_below.fn at h
    dsimp only at h
    rw [ValueIdx.cmpf_apply, Ideal.cmpf_def, hd, hb] at h
    exact h
  have hlt : re (mag (M := 4096) (K := 4096) (N := 2048) x w j) < re 16777216 := by
    by_contra hn
    simp only [Ideal.cmp, decide_eq_false hn] at hc
    exact absurd hc (by decide)
  rw [re_lt] at hlt
  exact_mod_cast hlt

end Mask

end Cert.Value

end
-- ==== Proof.Value.Equation.lean ====
/-
# The equation

Device `c`'s gathered rows are rows `256 c … 256 c + 255` of the whole `x`, so its result is that block of the reference's
result wherever the block of the mask is set.
-/
module

public import proofs.«01_k».proof.Proof.Value.Reference
public import Idealize.ShloMosaic.Lib.Layout

@[expose] public section

noncomputable section

namespace Cert.Value

open Cert.KernelIdeal Cert.KernelIdeal.Gen Cert.KernelIdeal.Exch
open Idealize.ShloMosaic Idealize.ShloMosaic.TcCoe

/-- Products of the same bytes are the same integer, and so are the totals of their magnitudes. -/
theorem prod_mag_congr {M M' K N : ℕ} (x : IVec ⟨2, ![M, K]⟩ 8) (x' : IVec ⟨2, ![M', K]⟩ 8) (w : IVec ⟨2, ![K, N]⟩ 8)
    (j : (⟨2, ![M, N]⟩ : Shape).Idx) (j' : (⟨2, ![M', N]⟩ : Shape).Idx)
    (hx : ∀ k : Fin K, x (Shape.pair (d := ![M, K]) (j 0) k) = x' (Shape.pair (d := ![M', K]) (j' 0) k))
    (hc : (Shape.pair (d := ![K, N]) · (j 1)) = (Shape.pair (d := ![K, N]) · (j' 1))) :
    prod x w j = prod x' w j' ∧ mag x w j = mag x' w j' := by
  have hw : ∀ k : Fin K, w (Shape.pair (d := ![K, N]) k (j 1)) = w (Shape.pair (d := ![K, N]) k (j' 1)) :=
    fun k => congrArg w (congrFun hc k)
  exact ⟨Finset.sum_congr rfl fun k _ => by rw [hx, hw], Finset.sum_congr rfl fun k _ => by rw [hx, hw]⟩

variable (m : (ℓ : Loc nD τ sig) → Buf (Elt Ideal) ℓ)

/-- Where every device has its columns of `X`, device `c` gathers its rows of `X`. -/
theorem rowsOf_block (X : IVec ⟨2, ![4096, 4096]⟩ 8)
    (hX : ∀ c : Dev nD, m ((c.tc : Thread nD τ).loc main_arg0) = Layout.block ⟨2, ![4096, 256]⟩ ⟨2, ![4096, 4096]⟩ 1 16 c X)
    (c : Dev nD) (r : Fin 256) (k : Fin 4096) (r' : Fin 4096) (hr : r'.val = c.val * 256 + r.val) :
    rowsOf m c (Shape.pair (d := ![256, 4096]) r k) = X (Shape.pair (d := ![4096, 4096]) r' k) := by
  unfold rowsOf
  rw [hX, Layout.block_apply]
  refine congrArg X (funext fun a => Fin.ext ?_)
  match a with
  | ⟨0, _⟩ => show 256 * c.val + r.val = r'.val; omega
  | ⟨1, _⟩ => show k.val / 256 * 256 + k.val % 256 = k.val; omega

/-- Device `c`'s result is its block of the reference's result, at the elements where its block of the mask is set. -/
theorem out_block (X : IVec ⟨2, ![4096, 4096]⟩ 8) (W : IVec ⟨2, ![4096, 2048]⟩ 8) (sx sw : FVec Ideal ⟨1, ![1]⟩ .f32)
    (hX : ∀ c : Dev nD, m ((c.tc : Thread nD τ).loc main_arg0) = Layout.block ⟨2, ![4096, 256]⟩ ⟨2, ![4096, 4096]⟩ 1 16 c X)
    (c : Dev nD) (hW : m ((c.tc : Thread nD τ).loc main_arg1) = W) (hsx : m ((c.tc : Thread nD τ).loc main_arg2) = sx)
    (hsw : m ((c.tc : Thread nD τ).loc main_arg3) = sw) (i : (⟨2, ![256, 2048]⟩ : Shape).Idx)
    (hi : (Layout.block ⟨2, ![256, 2048]⟩ ⟨2, ![4096, 2048]⟩ 0 16 c (Cert.On_exact_below.fn (F := Ideal) X W sx sw)) i = 1#1) :
    outOf m c i = (Layout.block ⟨2, ![256, 2048]⟩ ⟨2, ![4096, 2048]⟩ 0 16 c (refOut X W sx sw)) i := by
  have key : ∀ J : (⟨2, ![4096, 2048]⟩ : Shape).Idx, (J 0).val = c.val * 256 + (i 0).val → (J 1).val = (i 1).val →
      Cert.On_exact_below.fn (F := Ideal) X W sx sw J = 1#1 → outOf m c i = refOut X W sx sw J := fun J h0 h1 hJ => by
    have hpm := prod_mag_congr (M := 256) (M' := 4096) (K := 4096) (N := 2048) (rowsOf m c) X W i J
      (fun k => rowsOf_block m X hX c (i 0) k (J 0) h0) (congrArg (fun q k => Shape.pair (d := ![4096, 2048]) k q) (Fin.ext h1.symm))
    have hmag := hpm.2.trans_lt (mask_mag X W sx sw J hJ)
    rw [refOut_apply X W sx sw J one0, ← hpm.1, outOf_apply m c i (by rw [hW]; exact hmag), hW, hsx, hsw]
  exact key _ rfl rfl hi

end Cert.Value

end
-- ==== Proof.lean ====
/-
# The claim, assembled

The two versions of the kernel have the frame by their run (`Exch.frame`), the reference by its generated run. The value claim
is the two runs side by side and the equation of `Value/Equation.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_exact_below
public import proofs.«01_k».proof.Proof.Kernel.Run
public import proofs.«01_k».proof.Proof.KernelIdeal.Run
public import proofs.«01_k».proof.Proof.Value.Equation
public import Idealize.ShloMosaic.Adequacy
public import Idealize.ShloMosaic.Init

@[expose] public section

noncomputable section

namespace Cert.Proof

open Idealize.ShloMosaic Idealize.SL.Sem

theorem frame_Kernel : Cert.quiescent_Kernel (hKernel := Cert.Kernel.Gen.facts) := fun m g _ =>
  Cert.Kernel.Exch.frame (F := Bits) m g

theorem frame_KernelIdeal : Cert.quiescent_KernelIdeal (hKernelIdeal := Cert.KernelIdeal.Gen.facts) := fun m g _ =>
  Cert.KernelIdeal.Exch.frame (F := Ideal) m g

/-- The reference takes no semaphore: they end at zero as they began. -/
theorem frame_Reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

theorem value : Cert.algebraic_KernelIdeal_ReferenceIdeal_on_exact_below (hKernelIdeal := Cert.KernelIdeal.Gen.facts)
    (hReferenceIdeal := Cert.ReferenceIdeal.Gen.facts) (hOn_exact_below := Cert.On_exact_below.Gen.facts) :=
  fun m g m' g' _ hm => ⟨Cert.Value.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)),
    (θ_run _ _ _).mono (fun r h c => ⟨fun i hi => (congrFun (h.1 c).1 i).trans
        (Cert.Value.out_block m _ _ _ _ (fun d => (hm d).1) c (hm c).2.1 (hm c).2.2.1 (hm c).2.2.2 i hi), (h.1 c).2⟩)
      (Cert.KernelIdeal.Exch.run (F := Ideal) m g),
    (θ_run _ _ _).mono (fun r h => ⟨fun i _ => congrFun (h 0).1 i, (h 0).2⟩)
      (Cert.ReferenceIdeal.Value.run (F := Ideal) m' g')⟩

theorem claim : Cert.Claim :=
  ⟨Cert.Kernel.Gen.facts, Cert.KernelIdeal.Gen.facts, Cert.ReferenceIdeal.Gen.facts, Cert.On_exact_below.Gen.facts,
    frame_Kernel, frame_KernelIdeal, frame_Reference, trivial, value⟩

end Cert.Proof

end
